-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S1 : Shape := ⟨1, ![1]⟩
abbrev S8x512x512 : Shape := ⟨3, ![8, 512, 512]⟩
abbrev S8x512x2048 : Shape := ⟨3, ![8, 512, 2048]⟩
abbrev S8 : Shape := ⟨1, ![8]⟩
abbrev S_ : Shape := ⟨0, ![]⟩
abbrev S1x512x2048 : Shape := ⟨3, ![1, 512, 2048]⟩
abbrev S1x512x512 : Shape := ⟨3, ![1, 512, 512]⟩
abbrev S512x512 : Shape := ⟨2, ![512, 512]⟩

abbrev nBuf : Space → Nat
  | .hbm => 5
  | .vmem => 7
  | .smem => 2
  | _ => 0

abbrev bufTy : (tb : Table) → Fin (tcTables nBuf tb) → BufTy
  | .hbm, ⟨0, _⟩ => ⟨S4096x512, .fp8e5m2⟩
  | .hbm, ⟨1, _⟩ => ⟨S512x2048, .fp8e5m2⟩
  | .hbm, ⟨2, _⟩ => ⟨S1, .f32⟩
  | .hbm, ⟨3, _⟩ => ⟨S1, .f32⟩
  | .hbm, ⟨4, _⟩ => ⟨S512x2048, .f32⟩
  | .local _ .vmem, ⟨0, _⟩ => ⟨S4096x512, .fp8e5m2⟩
  | .local _ .vmem, ⟨1, _⟩ => ⟨S512x2048, .fp8e5m2⟩
  | .local _ .vmem, ⟨2, _⟩ => ⟨S512x2048, .f32⟩
  | .local _ .vmem, ⟨3, _⟩ => ⟨S4096x512, .fp8e5m2⟩
  | .local _ .vmem, ⟨4, _⟩ => ⟨S512x2048, .fp8e5m2⟩
  | .local _ .vmem, ⟨5, _⟩ => ⟨S8x512x512, .fp8e5m2⟩
  | .local _ .vmem, ⟨6, _⟩ => ⟨S8x512x2048, .fp8e5m2⟩
  | .local _ .smem, ⟨0, _⟩ => ⟨S1, .f32⟩
  | .local _ .smem, ⟨1, _⟩ => ⟨S1, .f32⟩
  | _, _ => ⟨S4096x512, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v14 : BitVec 32 := Scalar.addi v2 c1_i32_7
  let c8_i32_8 : BitVec 32 := 8#32
  let c0_i32 : BitVec 32 := 0#32
  let v15 : BitVec 1 := Scalar.cmpi .eq c8_i32_8 c0_i32
  let c1_i32_9 : BitVec 32 := 1#32
  let v16 : BitVec 32 := Scalar.select v15 c1_i32_9 c8_i32_8
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14 : BitVec 32 := 1#32
  let v25 : BitVec 32 := Scalar.muli v24 c1_i32_14
  let v26 : BitVec 32 := Scalar.addi c0_i32_15 v25
  v26.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v27 : BitVec 32 := Scalar.addi v2 c2_i32
  let c8_i32_16 : BitVec 32 := 8#32
  let c0_i32_17 : BitVec 32 := 0#32
  let v28 : BitVec 1 := Scalar.cmpi .eq c8_i32_16 c0_i32_17
  let c1_i32_18 : BitVec 32 := 1#32
  let v29 : BitVec 32 := Scalar.select v28 c1_i32_18 c8_i32_16
  let v30 : BitVec 32 := Scalar.remsi v27 v29
  let c0_i32_20 : BitVec 32 := 0#32
  let v32 : BitVec 1 := Scalar.cmpi .slt v30 c0_i32_20
  let c0_i32_21 : BitVec 32 := 0#32
  let v33 : BitVec 1 := Scalar.cmpi .slt v29 c0_i32_21
  let v34 : BitVec 1 := Scalar.xori v32 v33
  let c0_i32_19 : BitVec 32 := 0#32
  let v31 : BitVec 1 := Scalar.cmpi .ne v30 c0_i32_19
  let v35 : BitVec 1 := Scalar.andi v34 v31
  let v36 : BitVec 32 := Scalar.addi v30 v29
  let v37 : BitVec 32 := Scalar.select v35 v36 v30
  let c1_i32_23 : BitVec 32 := 1#32
  let v38 : BitVec 32 := Scalar.muli v37 c1_i32_23
  let v39 : BitVec 32 := Scalar.addi c0_i32_24 v38
  v39.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v40 : BitVec 32 := Scalar.addi v2 c3_i32
  let c8_i32_25 : BitVec 32 := 8#32
  let c0_i32_26 : BitVec 32 := 0#32
  let v41 : BitVec 1 := Scalar.cmpi .eq c8_i32_25 c0_i32_26
  let c1_i32_27 : BitVec 32 := 1#32
  let v42 : BitVec 32 := Scalar.select v41 c1_i32_27 c8_i32_25
  let v43 : BitVec 32 := Scalar.remsi v40 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let c1_i32_32 : BitVec 32 := 1#32
  let v51 : BitVec 32 := Scalar.muli v50 c1_i32_32
  let v52 : BitVec 32 := Scalar.addi c0_i32_33 v51
  v52.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v53 : BitVec 32 := Scalar.addi v2 c4_i32
  let c8_i32_34 : BitVec 32 := 8#32
  let c0_i32_35 : BitVec 32 := 0#32
  let v54 : BitVec 1 := Scalar.cmpi .eq c8_i32_34 c0_i32_35
  let c1_i32_36 : BitVec 32 := 1#32
  let v55 : BitVec 32 := Scalar.select v54 c1_i32_36 c8_i32_34
  let v56 : BitVec 32 := Scalar.remsi v53 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let c1_i32_41 : BitVec 32 := 1#32
  let v64 : BitVec 32 := Scalar.muli v63 c1_i32_41
  let v65 : BitVec 32 := Scalar.addi c0_i32_42 v64
  v65.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v66 : BitVec 32 := Scalar.addi v2 c5_i32
  let c8_i32_43 : BitVec 32 := 8#32
  let c0_i32_44 : BitVec 32 := 0#32
  let v67 : BitVec 1 := Scalar.cmpi .eq c8_i32_43 c0_i32_44
  let c1_i32_45 : BitVec 32 := 1#32
  let v68 : BitVec 32 := Scalar.select v67 c1_i32_45 c8_i32_43
  let v69 : BitVec 32 := Scalar.remsi v66 v68
  let c0_i32_47 : BitVec 32 := 0#32
  let v71 : BitVec 1 := Scalar.cmpi .slt v69 c0_i32_47
  let c0_i32_48 : BitVec 32 := 0#32
  let v72 : BitVec 1 := Scalar.cmpi .slt v68 c0_i32_48
  let v73 : BitVec 1 := Scalar.xori v71 v72
  let c0_i32_46 : BitVec 32 := 0#32
  let v70 : BitVec 1 := Scalar.cmpi .ne v69 c0_i32_46
  let v74 : BitVec 1 := Scalar.andi v73 v70
  let v75 : BitVec 32 := Scalar.addi v69 v68
  let v76 : BitVec 32 := Scalar.select v74 v75 v69
  let c1_i32_50 : BitVec 32 := 1#32
  let v77 : BitVec 32 := Scalar.muli v76 c1_i32_50
  let v78 : BitVec 32 := Scalar.addi c0_i32_51 v77
  v78.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v79 : BitVec 32 := Scalar.addi v2 c6_i32
  let c8_i32_52 : BitVec 32 := 8#32
  let c0_i32_53 : BitVec 32 := 0#32
  let v80 : BitVec 1 := Scalar.cmpi .eq c8_i32_52 c0_i32_53
  let c1_i32_54 : BitVec 32 := 1#32
  let v81 : BitVec 32 := Scalar.select v80 c1_i32_54 c8_i32_52
  let v82 : BitVec 32 := Scalar.remsi v79 v81
  let c0_i32_56 : BitVec 32 := 0#32
  let v84 : BitVec 1 := Scalar.cmpi .slt v82 c0_i32_56
  let c0_i32_57 : BitVec 32 := 0#32
  let v85 : BitVec 1 := Scalar.cmpi .slt v81 c0_i32_57
  let v86 : BitVec 1 := Scalar.xori v84 v85
  let c0_i32_55 : BitVec 32 := 0#32
  let v83 : BitVec 1 := Scalar.cmpi .ne v82 c0_i32_55
  let v87 : BitVec 1 := Scalar.andi v86 v83
  let v88 : BitVec 32 := Scalar.addi v82 v81
  let v89 : BitVec 32 := Scalar.select v87 v88 v82
  let c1_i32_59 : BitVec 32 := 1#32
  let v90 : BitVec 32 := Scalar.muli v89 c1_i32_59
  let v91 : BitVec 32 := Scalar.addi c0_i32_60 v90
  v91.toNat
def k0_dev7 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v92 : BitVec 32 := Scalar.addi v2 c7_i32
  let c8_i32_61 : BitVec 32 := 8#32
  let c0_i32_62 : BitVec 32 := 0#32
  let v93 : BitVec 1 := Scalar.cmpi .eq c8_i32_61 c0_i32_62
  let c1_i32_63 : BitVec 32 := 1#32
  let v94 : BitVec 32 := Scalar.select v93 c1_i32_63 c8_i32_61
  let v95 : BitVec 32 := Scalar.remsi v92 v94
  let c0_i32_65 : BitVec 32 := 0#32
  let v97 : BitVec 1 := Scalar.cmpi .slt v95 c0_i32_65
  let c0_i32_66 : BitVec 32 := 0#32
  let v98 : BitVec 1 := Scalar.cmpi .slt v94 c0_i32_66
  let v99 : BitVec 1 := Scalar.xori v97 v98
  let c0_i32_64 : BitVec 32 := 0#32
  let v96 : BitVec 1 := Scalar.cmpi .ne v95 c0_i32_64
  let v100 : BitVec 1 := Scalar.andi v99 v96
  let v101 : BitVec 32 := Scalar.addi v95 v94
  let v102 : BitVec 32 := Scalar.select v100 v101 v95
  let c1_i32_68 : BitVec 32 := 1#32
  let v103 : BitVec 32 := Scalar.muli v102 c1_i32_68
  let v104 : BitVec 32 := Scalar.addi c0_i32_69 v103
  v104.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_81 : BitVec 32 := 0#32
  let c0_i32_82 : BitVec 32 := 0#32
  ![v2.toNat, 0, 0]
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_71 : BitVec 32 := 1#32
  let v105 : BitVec 32 := Scalar.addi v2 c1_i32_71
  let c8_i32_72 : BitVec 32 := 8#32
  let c0_i32_73 : BitVec 32 := 0#32
  let v106 : BitVec 1 := Scalar.cmpi .eq c8_i32_72 c0_i32_73
  let c1_i32_74 : BitVec 32 := 1#32
  let v107 : BitVec 32 := Scalar.select v106 c1_i32_74 c8_i32_72
  let v108 : BitVec 32 := Scalar.remsi v105 v107
  let c0_i32_76 : BitVec 32 := 0#32
  let v110 : BitVec 1 := Scalar.cmpi .slt v108 c0_i32_76
  let c0_i32_77 : BitVec 32 := 0#32
  let v111 : BitVec 1 := Scalar.cmpi .slt v107 c0_i32_77
  let v112 : BitVec 1 := Scalar.xori v110 v111
  let c0_i32_75 : BitVec 32 := 0#32
  let v109 : BitVec 1 := Scalar.cmpi .ne v108 c0_i32_75
  let v113 : BitVec 1 := Scalar.andi v112 v109
  let v114 : BitVec 32 := Scalar.addi v108 v107
  let v115 : BitVec 32 := Scalar.select v113 v114 v108
  let c1_i32_79 : BitVec 32 := 1#32
  let v116 : BitVec 32 := Scalar.muli v115 c1_i32_79
  let v117 : BitVec 32 := Scalar.addi c0_i32_80 v116
  v117.toNat
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_86 : BitVec 32 := 0#32
  let c0_i32_87 : BitVec 32 := 0#32
  ![v2.toNat, 0, 0]
def k0_off4 (d0 : Dev nD) (c1_i32_71 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v105 : BitVec 32 := Scalar.addi v2 c1_i32_71
  let c8_i32_72 : BitVec 32 := 8#32
  let c0_i32_73 : BitVec 32 := 0#32
  let v106 : BitVec 1 := Scalar.cmpi .eq c8_i32_72 c0_i32_73
  let c1_i32_74 : BitVec 32 := 1#32
  let v107 : BitVec 32 := Scalar.select v106 c1_i32_74 c8_i32_72
  let v108 : BitVec 32 := Scalar.remsi v105 v107
  let c0_i32_76 : BitVec 32 := 0#32
  let v110 : BitVec 1 := Scalar.cmpi .slt v108 c0_i32_76
  let c0_i32_77 : BitVec 32 := 0#32
  let v111 : BitVec 1 := Scalar.cmpi .slt v107 c0_i32_77
  let v112 : BitVec 1 := Scalar.xori v110 v111
  let c0_i32_75 : BitVec 32 := 0#32
  let v109 : BitVec 1 := Scalar.cmpi .ne v108 c0_i32_75
  let v113 : BitVec 1 := Scalar.andi v112 v109
  let v114 : BitVec 32 := Scalar.addi v108 v107
  let v115 : BitVec 32 := Scalar.select v113 v114 v108
  let c512_i32 : BitVec 32 := 512#32
  let v124 : BitVec 32 := Scalar.muli v115 c512_i32
  let c0_i32_88 : BitVec 32 := 0#32
  ![v124.toNat, 0]
def k0_dev9 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_71 : BitVec 32 := 1#32
  let v105 : BitVec 32 := Scalar.addi v2 c1_i32_71
  let c8_i32_72 : BitVec 32 := 8#32
  let c0_i32_73 : BitVec 32 := 0#32
  let v106 : BitVec 1 := Scalar.cmpi .eq c8_i32_72 c0_i32_73
  let c1_i32_74 : BitVec 32 := 1#32
  let v107 : BitVec 32 := Scalar.select v106 c1_i32_74 c8_i32_72
  let v108 : BitVec 32 := Scalar.remsi v105 v107
  let c0_i32_76 : BitVec 32 := 0#32
  let v110 : BitVec 1 := Scalar.cmpi .slt v108 c0_i32_76
  let c0_i32_77 : BitVec 32 := 0#32
  let v111 : BitVec 1 := Scalar.cmpi .slt v107 c0_i32_77
  let v112 : BitVec 1 := Scalar.xori v110 v111
  let c0_i32_75 : BitVec 32 := 0#32
  let v109 : BitVec 1 := Scalar.cmpi .ne v108 c0_i32_75
  let v113 : BitVec 1 := Scalar.andi v112 v109
  let v114 : BitVec 32 := Scalar.addi v108 v107
  let v115 : BitVec 32 := Scalar.select v113 v114 v108
  let c1_i32_84 : BitVec 32 := 1#32
  let v125 : BitVec 32 := Scalar.muli v115 c1_i32_84
  let v126 : BitVec 32 := Scalar.addi c0_i32_85 v125
  v126.toNat
def k0_dev10 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_89 : BitVec 32 := 2#32
  let v134 : BitVec 32 := Scalar.addi v2 c2_i32_89
  let c8_i32_90 : BitVec 32 := 8#32
  let c0_i32_91 : BitVec 32 := 0#32
  let v135 : BitVec 1 := Scalar.cmpi .eq c8_i32_90 c0_i32_91
  let c1_i32_92 : BitVec 32 := 1#32
  let v136 : BitVec 32 := Scalar.select v135 c1_i32_92 c8_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev11 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_89 : BitVec 32 := 2#32
  let v134 : BitVec 32 := Scalar.addi v2 c2_i32_89
  let c8_i32_90 : BitVec 32 := 8#32
  let c0_i32_91 : BitVec 32 := 0#32
  let v135 : BitVec 1 := Scalar.cmpi .eq c8_i32_90 c0_i32_91
  let c1_i32_92 : BitVec 32 := 1#32
  let v136 : BitVec 32 := Scalar.select v135 c1_i32_92 c8_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_103 : BitVec 32 := 1#32
  let v154 : BitVec 32 := Scalar.muli v144 c1_i32_103
  let v155 : BitVec 32 := Scalar.addi c0_i32_104 v154
  v155.toNat
def k0_dev12 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_108 : BitVec 32 := 3#32
  let v163 : BitVec 32 := Scalar.addi v2 c3_i32_108
  let c8_i32_109 : BitVec 32 := 8#32
  let c0_i32_110 : BitVec 32 := 0#32
  let v164 : BitVec 1 := Scalar.cmpi .eq c8_i32_109 c0_i32_110
  let c1_i32_111 : BitVec 32 := 1#32
  let v165 : BitVec 32 := Scalar.select v164 c1_i32_111 c8_i32_109
  let v166 : BitVec 32 := Scalar.remsi v163 v165
  let c0_i32_113 : BitVec 32 := 0#32
  let v168 : BitVec 1 := Scalar.cmpi .slt v166 c0_i32_113
  let c0_i32_114 : BitVec 32 := 0#32
  let v169 : BitVec 1 := Scalar.cmpi .slt v165 c0_i32_114
  let v170 : BitVec 1 := Scalar.xori v168 v169
  let c0_i32_112 : BitVec 32 := 0#32
  let v167 : BitVec 1 := Scalar.cmpi .ne v166 c0_i32_112
  let v171 : BitVec 1 := Scalar.andi v170 v167
  let v172 : BitVec 32 := Scalar.addi v166 v165
  let v173 : BitVec 32 := Scalar.select v171 v172 v166
  let c1_i32_116 : BitVec 32 := 1#32
  let v174 : BitVec 32 := Scalar.muli v173 c1_i32_116
  let v175 : BitVec 32 := Scalar.addi c0_i32_117 v174
  v175.toNat
def k0_dev13 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_108 : BitVec 32 := 3#32
  let v163 : BitVec 32 := Scalar.addi v2 c3_i32_108
  let c8_i32_109 : BitVec 32 := 8#32
  let c0_i32_110 : BitVec 32 := 0#32
  let v164 : BitVec 1 := Scalar.cmpi .eq c8_i32_109 c0_i32_110
  let c1_i32_111 : BitVec 32 := 1#32
  let v165 : BitVec 32 := Scalar.select v164 c1_i32_111 c8_i32_109
  let v166 : BitVec 32 := Scalar.remsi v163 v165
  let c0_i32_113 : BitVec 32 := 0#32
  let v168 : BitVec 1 := Scalar.cmpi .slt v166 c0_i32_113
  let c0_i32_114 : BitVec 32 := 0#32
  let v169 : BitVec 1 := Scalar.cmpi .slt v165 c0_i32_114
  let v170 : BitVec 1 := Scalar.xori v168 v169
  let c0_i32_112 : BitVec 32 := 0#32
  let v167 : BitVec 1 := Scalar.cmpi .ne v166 c0_i32_112
  let v171 : BitVec 1 := Scalar.andi v170 v167
  let v172 : BitVec 32 := Scalar.addi v166 v165
  let v173 : BitVec 32 := Scalar.select v171 v172 v166
  let c1_i32_122 : BitVec 32 := 1#32
  let v183 : BitVec 32 := Scalar.muli v173 c1_i32_122
  let v184 : BitVec 32 := Scalar.addi c0_i32_123 v183
  v184.toNat
def k0_dev14 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_127 : BitVec 32 := 4#32
  let v192 : BitVec 32 := Scalar.addi v2 c4_i32_127
  let c8_i32_128 : BitVec 32 := 8#32
  let c0_i32_129 : BitVec 32 := 0#32
  let v193 : BitVec 1 := Scalar.cmpi .eq c8_i32_128 c0_i32_129
  let c1_i32_130 : BitVec 32 := 1#32
  let v194 : BitVec 32 := Scalar.select v193 c1_i32_130 c8_i32_128
  let v195 : BitVec 32 := Scalar.remsi v192 v194
  let c0_i32_132 : BitVec 32 := 0#32
  let v197 : BitVec 1 := Scalar.cmpi .slt v195 c0_i32_132
  let c0_i32_133 : BitVec 32 := 0#32
  let v198 : BitVec 1 := Scalar.cmpi .slt v194 c0_i32_133
  let v199 : BitVec 1 := Scalar.xori v197 v198
  let c0_i32_131 : BitVec 32 := 0#32
  let v196 : BitVec 1 := Scalar.cmpi .ne v195 c0_i32_131
  let v200 : BitVec 1 := Scalar.andi v199 v196
  let v201 : BitVec 32 := Scalar.addi v195 v194
  let v202 : BitVec 32 := Scalar.select v200 v201 v195
  let c1_i32_135 : BitVec 32 := 1#32
  let v203 : BitVec 32 := Scalar.muli v202 c1_i32_135
  let v204 : BitVec 32 := Scalar.addi c0_i32_136 v203
  v204.toNat
def k0_dev15 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_127 : BitVec 32 := 4#32
  let v192 : BitVec 32 := Scalar.addi v2 c4_i32_127
  let c8_i32_128 : BitVec 32 := 8#32
  let c0_i32_129 : BitVec 32 := 0#32
  let v193 : BitVec 1 := Scalar.cmpi .eq c8_i32_128 c0_i32_129
  let c1_i32_130 : BitVec 32 := 1#32
  let v194 : BitVec 32 := Scalar.select v193 c1_i32_130 c8_i32_128
  let v195 : BitVec 32 := Scalar.remsi v192 v194
  let c0_i32_132 : BitVec 32 := 0#32
  let v197 : BitVec 1 := Scalar.cmpi .slt v195 c0_i32_132
  let c0_i32_133 : BitVec 32 := 0#32
  let v198 : BitVec 1 := Scalar.cmpi .slt v194 c0_i32_133
  let v199 : BitVec 1 := Scalar.xori v197 v198
  let c0_i32_131 : BitVec 32 := 0#32
  let v196 : BitVec 1 := Scalar.cmpi .ne v195 c0_i32_131
  let v200 : BitVec 1 := Scalar.andi v199 v196
  let v201 : BitVec 32 := Scalar.addi v195 v194
  let v202 : BitVec 32 := Scalar.select v200 v201 v195
  let c1_i32_141 : BitVec 32 := 1#32
  let v212 : BitVec 32 := Scalar.muli v202 c1_i32_141
  let v213 : BitVec 32 := Scalar.addi c0_i32_142 v212
  v213.toNat
def k0_dev16 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_146 : BitVec 32 := 5#32
  let v221 : BitVec 32 := Scalar.addi v2 c5_i32_146
  let c8_i32_147 : BitVec 32 := 8#32
  let c0_i32_148 : BitVec 32 := 0#32
  let v222 : BitVec 1 := Scalar.cmpi .eq c8_i32_147 c0_i32_148
  let c1_i32_149 : BitVec 32 := 1#32
  let v223 : BitVec 32 := Scalar.select v222 c1_i32_149 c8_i32_147
  let v224 : BitVec 32 := Scalar.remsi v221 v223
  let c0_i32_151 : BitVec 32 := 0#32
  let v226 : BitVec 1 := Scalar.cmpi .slt v224 c0_i32_151
  let c0_i32_152 : BitVec 32 := 0#32
  let v227 : BitVec 1 := Scalar.cmpi .slt v223 c0_i32_152
  let v228 : BitVec 1 := Scalar.xori v226 v227
  let c0_i32_150 : BitVec 32 := 0#32
  let v225 : BitVec 1 := Scalar.cmpi .ne v224 c0_i32_150
  let v229 : BitVec 1 := Scalar.andi v228 v225
  let v230 : BitVec 32 := Scalar.addi v224 v223
  let v231 : BitVec 32 := Scalar.select v229 v230 v224
  let c1_i32_154 : BitVec 32 := 1#32
  let v232 : BitVec 32 := Scalar.muli v231 c1_i32_154
  let v233 : BitVec 32 := Scalar.addi c0_i32_155 v232
  v233.toNat
def k0_dev17 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_146 : BitVec 32 := 5#32
  let v221 : BitVec 32 := Scalar.addi v2 c5_i32_146
  let c8_i32_147 : BitVec 32 := 8#32
  let c0_i32_148 : BitVec 32 := 0#32
  let v222 : BitVec 1 := Scalar.cmpi .eq c8_i32_147 c0_i32_148
  let c1_i32_149 : BitVec 32 := 1#32
  let v223 : BitVec 32 := Scalar.select v222 c1_i32_149 c8_i32_147
  let v224 : BitVec 32 := Scalar.remsi v221 v223
  let c0_i32_151 : BitVec 32 := 0#32
  let v226 : BitVec 1 := Scalar.cmpi .slt v224 c0_i32_151
  let c0_i32_152 : BitVec 32 := 0#32
  let v227 : BitVec 1 := Scalar.cmpi .slt v223 c0_i32_152
  let v228 : BitVec 1 := Scalar.xori v226 v227
  let c0_i32_150 : BitVec 32 := 0#32
  let v225 : BitVec 1 := Scalar.cmpi .ne v224 c0_i32_150
  let v229 : BitVec 1 := Scalar.andi v228 v225
  let v230 : BitVec 32 := Scalar.addi v224 v223
  let v231 : BitVec 32 := Scalar.select v229 v230 v224
  let c1_i32_160 : BitVec 32 := 1#32
  let v241 : BitVec 32 := Scalar.muli v231 c1_i32_160
  let v242 : BitVec 32 := Scalar.addi c0_i32_161 v241
  v242.toNat
def k0_dev18 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_165 : BitVec 32 := 6#32
  let v250 : BitVec 32 := Scalar.addi v2 c6_i32_165
  let c8_i32_166 : BitVec 32 := 8#32
  let c0_i32_167 : BitVec 32 := 0#32
  let v251 : BitVec 1 := Scalar.cmpi .eq c8_i32_166 c0_i32_167
  let c1_i32_168 : BitVec 32 := 1#32
  let v252 : BitVec 32 := Scalar.select v251 c1_i32_168 c8_i32_166
  let v253 : BitVec 32 := Scalar.remsi v250 v252
  let c0_i32_170 : BitVec 32 := 0#32
  let v255 : BitVec 1 := Scalar.cmpi .slt v253 c0_i32_170
  let c0_i32_171 : BitVec 32 := 0#32
  let v256 : BitVec 1 := Scalar.cmpi .slt v252 c0_i32_171
  let v257 : BitVec 1 := Scalar.xori v255 v256
  let c0_i32_169 : BitVec 32 := 0#32
  let v254 : BitVec 1 := Scalar.cmpi .ne v253 c0_i32_169
  let v258 : BitVec 1 := Scalar.andi v257 v254
  let v259 : BitVec 32 := Scalar.addi v253 v252
  let v260 : BitVec 32 := Scalar.select v258 v259 v253
  let c1_i32_173 : BitVec 32 := 1#32
  let v261 : BitVec 32 := Scalar.muli v260 c1_i32_173
  let v262 : BitVec 32 := Scalar.addi c0_i32_174 v261
  v262.toNat
def k0_dev19 (d0 : Dev nD) : Nat :=
  let c0_i32_180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_165 : BitVec 32 := 6#32
  let v250 : BitVec 32 := Scalar.addi v2 c6_i32_165
  let c8_i32_166 : BitVec 32 := 8#32
  let c0_i32_167 : BitVec 32 := 0#32
  let v251 : BitVec 1 := Scalar.cmpi .eq c8_i32_166 c0_i32_167
  let c1_i32_168 : BitVec 32 := 1#32
  let v252 : BitVec 32 := Scalar.select v251 c1_i32_168 c8_i32_166
  let v253 : BitVec 32 := Scalar.remsi v250 v252
  let c0_i32_170 : BitVec 32 := 0#32
  let v255 : BitVec 1 := Scalar.cmpi .slt v253 c0_i32_170
  let c0_i32_171 : BitVec 32 := 0#32
  let v256 : BitVec 1 := Scalar.cmpi .slt v252 c0_i32_171
  let v257 : BitVec 1 := Scalar.xori v255 v256
  let c0_i32_169 : BitVec 32 := 0#32
  let v254 : BitVec 1 := Scalar.cmpi .ne v253 c0_i32_169
  let v258 : BitVec 1 := Scalar.andi v257 v254
  let v259 : BitVec 32 := Scalar.addi v253 v252
  let v260 : BitVec 32 := Scalar.select v258 v259 v253
  let c1_i32_179 : BitVec 32 := 1#32
  let v270 : BitVec 32 := Scalar.muli v260 c1_i32_179
  let v271 : BitVec 32 := Scalar.addi c0_i32_180 v270
  v271.toNat
def k0_dev20 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_184 : BitVec 32 := 7#32
  let v279 : BitVec 32 := Scalar.addi v2 c7_i32_184
  let c8_i32_185 : BitVec 32 := 8#32
  let c0_i32_186 : BitVec 32 := 0#32
  let v280 : BitVec 1 := Scalar.cmpi .eq c8_i32_185 c0_i32_186
  let c1_i32_187 : BitVec 32 := 1#32
  let v281 : BitVec 32 := Scalar.select v280 c1_i32_187 c8_i32_185
  let v282 : BitVec 32 := Scalar.remsi v279 v281
  let c0_i32_189 : BitVec 32 := 0#32
  let v284 : BitVec 1 := Scalar.cmpi .slt v282 c0_i32_189
  let c0_i32_190 : BitVec 32 := 0#32
  let v285 : BitVec 1 := Scalar.cmpi .slt v281 c0_i32_190
  let v286 : BitVec 1 := Scalar.xori v284 v285
  let c0_i32_188 : BitVec 32 := 0#32
  let v283 : BitVec 1 := Scalar.cmpi .ne v282 c0_i32_188
  let v287 : BitVec 1 := Scalar.andi v286 v283
  let v288 : BitVec 32 := Scalar.addi v282 v281
  let v289 : BitVec 32 := Scalar.select v287 v288 v282
  let c1_i32_192 : BitVec 32 := 1#32
  let v290 : BitVec 32 := Scalar.muli v289 c1_i32_192
  let v291 : BitVec 32 := Scalar.addi c0_i32_193 v290
  v291.toNat
def k0_dev21 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_184 : BitVec 32 := 7#32
  let v279 : BitVec 32 := Scalar.addi v2 c7_i32_184
  let c8_i32_185 : BitVec 32 := 8#32
  let c0_i32_186 : BitVec 32 := 0#32
  let v280 : BitVec 1 := Scalar.cmpi .eq c8_i32_185 c0_i32_186
  let c1_i32_187 : BitVec 32 := 1#32
  let v281 : BitVec 32 := Scalar.select v280 c1_i32_187 c8_i32_185
  let v282 : BitVec 32 := Scalar.remsi v279 v281
  let c0_i32_189 : BitVec 32 := 0#32
  let v284 : BitVec 1 := Scalar.cmpi .slt v282 c0_i32_189
  let c0_i32_190 : BitVec 32 := 0#32
  let v285 : BitVec 1 := Scalar.cmpi .slt v281 c0_i32_190
  let v286 : BitVec 1 := Scalar.xori v284 v285
  let c0_i32_188 : BitVec 32 := 0#32
  let v283 : BitVec 1 := Scalar.cmpi .ne v282 c0_i32_188
  let v287 : BitVec 1 := Scalar.andi v286 v283
  let v288 : BitVec 32 := Scalar.addi v282 v281
  let v289 : BitVec 32 := Scalar.select v287 v288 v282
  let c1_i32_198 : BitVec 32 := 1#32
  let v299 : BitVec 32 := Scalar.muli v289 c1_i32_198
  let v300 : BitVec 32 := Scalar.addi c0_i32_199 v299
  v300.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_203 : BitVec 32 := 512#32
  let v308 : BitVec 32 := Scalar.muli v2 c512_i32_203
  let v309 : Index := Scalar.indexCast v308
  let c0_204 : Index := 0#32
  ![v309.toNat, 0]
def k0_off6 (d0 : Dev nD) (c1_i32_207 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v315 : BitVec 32 := Scalar.subi v2 c1_i32_207
  let c8_i32_208 : BitVec 32 := 8#32
  let c0_i32_209 : BitVec 32 := 0#32
  let v316 : BitVec 1 := Scalar.cmpi .eq c8_i32_208 c0_i32_209
  let c1_i32_210 : BitVec 32 := 1#32
  let v317 : BitVec 32 := Scalar.select v316 c1_i32_210 c8_i32_208
  let v318 : BitVec 32 := Scalar.remsi v315 v317
  let c0_i32_212 : BitVec 32 := 0#32
  let v320 : BitVec 1 := Scalar.cmpi .slt v318 c0_i32_212
  let c0_i32_213 : BitVec 32 := 0#32
  let v321 : BitVec 1 := Scalar.cmpi .slt v317 c0_i32_213
  let v322 : BitVec 1 := Scalar.xori v320 v321
  let c0_i32_211 : BitVec 32 := 0#32
  let v319 : BitVec 1 := Scalar.cmpi .ne v318 c0_i32_211
  let v323 : BitVec 1 := Scalar.andi v322 v319
  let v324 : BitVec 32 := Scalar.addi v318 v317
  let v325 : BitVec 32 := Scalar.select v323 v324 v318
  ![v325.toNat]
def k0_off7 (d0 : Dev nD) (c1_i32_207 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v315 : BitVec 32 := Scalar.subi v2 c1_i32_207
  let c8_i32_208 : BitVec 32 := 8#32
  let c0_i32_209 : BitVec 32 := 0#32
  let v316 : BitVec 1 := Scalar.cmpi .eq c8_i32_208 c0_i32_209
  let c1_i32_210 : BitVec 32 := 1#32
  let v317 : BitVec 32 := Scalar.select v316 c1_i32_210 c8_i32_208
  let v318 : BitVec 32 := Scalar.remsi v315 v317
  let c0_i32_212 : BitVec 32 := 0#32
  let v320 : BitVec 1 := Scalar.cmpi .slt v318 c0_i32_212
  let c0_i32_213 : BitVec 32 := 0#32
  let v321 : BitVec 1 := Scalar.cmpi .slt v317 c0_i32_213
  let v322 : BitVec 1 := Scalar.xori v320 v321
  let c0_i32_211 : BitVec 32 := 0#32
  let v319 : BitVec 1 := Scalar.cmpi .ne v318 c0_i32_211
  let v323 : BitVec 1 := Scalar.andi v322 v319
  let v324 : BitVec 32 := Scalar.addi v318 v317
  let v325 : BitVec 32 := Scalar.select v323 v324 v318
  let c0_i32_217 : BitVec 32 := 0#32
  let c0_i32_218 : BitVec 32 := 0#32
  ![v325.toNat, 0, 0]
def k0_off8 (d0 : Dev nD) (c1_i32_207 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v315 : BitVec 32 := Scalar.subi v2 c1_i32_207
  let c8_i32_208 : BitVec 32 := 8#32
  let c0_i32_209 : BitVec 32 := 0#32
  let v316 : BitVec 1 := Scalar.cmpi .eq c8_i32_208 c0_i32_209
  let c1_i32_210 : BitVec 32 := 1#32
  let v317 : BitVec 32 := Scalar.select v316 c1_i32_210 c8_i32_208
  let v318 : BitVec 32 := Scalar.remsi v315 v317
  let c0_i32_212 : BitVec 32 := 0#32
  let v320 : BitVec 1 := Scalar.cmpi .slt v318 c0_i32_212
  let c0_i32_213 : BitVec 32 := 0#32
  let v321 : BitVec 1 := Scalar.cmpi .slt v317 c0_i32_213
  let v322 : BitVec 1 := Scalar.xori v320 v321
  let c0_i32_211 : BitVec 32 := 0#32
  let v319 : BitVec 1 := Scalar.cmpi .ne v318 c0_i32_211
  let v323 : BitVec 1 := Scalar.andi v322 v319
  let v324 : BitVec 32 := Scalar.addi v318 v317
  let v325 : BitVec 32 := Scalar.select v323 v324 v318
  let c0_i32_222 : BitVec 32 := 0#32
  let c0_i32_223 : BitVec 32 := 0#32
  ![v325.toNat, 0, 0]
def k0_off9 (d0 : Dev nD) (c1_i32_207 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v315 : BitVec 32 := Scalar.subi v2 c1_i32_207
  let c8_i32_208 : BitVec 32 := 8#32
  let c0_i32_209 : BitVec 32 := 0#32
  let v316 : BitVec 1 := Scalar.cmpi .eq c8_i32_208 c0_i32_209
  let c1_i32_210 : BitVec 32 := 1#32
  let v317 : BitVec 32 := Scalar.select v316 c1_i32_210 c8_i32_208
  let v318 : BitVec 32 := Scalar.remsi v315 v317
  let c0_i32_212 : BitVec 32 := 0#32
  let v320 : BitVec 1 := Scalar.cmpi .slt v318 c0_i32_212
  let c0_i32_213 : BitVec 32 := 0#32
  let v321 : BitVec 1 := Scalar.cmpi .slt v317 c0_i32_213
  let v322 : BitVec 1 := Scalar.xori v320 v321
  let c0_i32_211 : BitVec 32 := 0#32
  let v319 : BitVec 1 := Scalar.cmpi .ne v318 c0_i32_211
  let v323 : BitVec 1 := Scalar.andi v322 v319
  let v324 : BitVec 32 := Scalar.addi v318 v317
  let v325 : BitVec 32 := Scalar.select v323 v324 v318
  let v339 : Index := Scalar.indexCast v325
  let c0_226 : Index := 0#32
  let c0_227 : Index := 0#32
  ![v339.toNat, 0, 0]
def k0_off10 (d0 : Dev nD) (c1_i32_207 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v315 : BitVec 32 := Scalar.subi v2 c1_i32_207
  let c8_i32_208 : BitVec 32 := 8#32
  let c0_i32_209 : BitVec 32 := 0#32
  let v316 : BitVec 1 := Scalar.cmpi .eq c8_i32_208 c0_i32_209
  let c1_i32_210 : BitVec 32 := 1#32
  let v317 : BitVec 32 := Scalar.select v316 c1_i32_210 c8_i32_208
  let v318 : BitVec 32 := Scalar.remsi v315 v317
  let c0_i32_212 : BitVec 32 := 0#32
  let v320 : BitVec 1 := Scalar.cmpi .slt v318 c0_i32_212
  let c0_i32_213 : BitVec 32 := 0#32
  let v321 : BitVec 1 := Scalar.cmpi .slt v317 c0_i32_213
  let v322 : BitVec 1 := Scalar.xori v320 v321
  let c0_i32_211 : BitVec 32 := 0#32
  let v319 : BitVec 1 := Scalar.cmpi .ne v318 c0_i32_211
  let v323 : BitVec 1 := Scalar.andi v322 v319
  let v324 : BitVec 32 := Scalar.addi v318 v317
  let v325 : BitVec 32 := Scalar.select v323 v324 v318
  let v343 : Index := Scalar.indexCast v325
  let c0_228 : Index := 0#32
  let c0_229 : Index := 0#32
  ![v343.toNat, 0, 0]
abbrev stage0_0 : Fin 1 → Memref sig .tc .vmem S4096x512 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Cells.lean ====
/-
# The devices, the semaphores and the buffers of the kernel

Eight devices. Every device sends its slab `w` (512 rows of the right factor) to the seven others, and to each of
them the block of 512 rows of its own column slab of the left factor that this other device multiplies with it. The
devices are named by their distance from the running one: `sh c r` is the device `r + 1` places after `c` (the one
the `r`-th send goes to), `fr c r` the device `r + 1` places before it (the one the `r`-th arrival comes from).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Neighbours by distance -/

set_option backward.proofsInPublic true in
/-- The device `r + 1` places after `c`. -/
def sh (c : Dev nD) (r : Fin 7) : Dev nD := ⟨(c.val + r.val + 1) % 8, Nat.mod_lt _ (by decide)⟩
set_option backward.proofsInPublic true in
/-- The device `r + 1` places before `c`. -/
def fr (c : Dev nD) (r : Fin 7) : Dev nD := ⟨(c.val + 7 - r.val) % 8, Nat.mod_lt _ (by decide)⟩

/-- The seven devices after `c` are the seven others, each once, and so are the seven before; the one undoes the other. -/
theorem sh_ne (c : Dev nD) (r : Fin 7) : sh c r ≠ c := by revert c r; decide
theorem fr_ne (c : Dev nD) (r : Fin 7) : fr c r ≠ c := by revert c r; decide
theorem sh_fr (c : Dev nD) (r : Fin 7) : sh (fr c r) r = c := by revert c r; decide
theorem fr_sh (c : Dev nD) (r : Fin 7) : fr (sh c r) r = c := by revert c r; decide
theorem sh_inj (c : Dev nD) : Function.Injective (sh c) := by revert c; decide
theorem fr_inj (c : Dev nD) : Function.Injective (fr c) := by revert c; decide

/-- Going `r + 1` places along the devices is a permutation of them. -/
def shE (r : Fin 7) : Dev nD ≃ Dev nD := ⟨fun c => sh c r, fun c => fr c r, fun c => fr_sh c r, fun c => sh_fr c r⟩

/-- The numbers of eight things other than `x`, listed by an injection from seven: all of them. -/
theorem univ_except (e : Fin 7 ↪ Fin 8) (x : Fin 8) (h : ∀ r, e r ≠ x) :
    (Finset.univ : Finset (Fin 8)).erase x = Finset.univ.map e := by
  refine (Finset.eq_of_subset_of_card_le (fun y hy => ?_) ?_).symm
  · obtain ⟨r, -, rfl⟩ := Finset.mem_map.mp hy
    exact Finset.mem_erase.mpr ⟨h r, Finset.mem_univ _⟩
  · rw [Finset.card_map, Finset.card_erase_of_mem (Finset.mem_univ _)]; decide

/-- A conjunction over eight things is the one for `x` and those for the seven others. -/
theorem bigSep_except {M : Type} [URA M] (e : Fin 7 → Fin 8) (he : Function.Injective e) (x : Fin 8) (h : ∀ r, e r ≠ x) (Φ : Fin 8 → sProp M) :
    bigSep Finset.univ Φ = iprop(Φ x ∗ bigSep Finset.univ fun r => Φ (e r)) := by
  rw [bigSep_univ_split x, univ_except ⟨e, he⟩ x h, bigSep_map]; rfl

/-- A conjunction over the seven distances, over the others, and over all eight with the first set apart. -/
theorem bigSep_sh {M : Type} [URA M] (c : Dev nD) (Φ : Dev nD → sProp M) :
    bigSep Finset.univ Φ = iprop(Φ c ∗ bigSep Finset.univ fun r => Φ (sh c r)) := bigSep_except _ (sh_inj c) c (sh_ne c) Φ
theorem bigSep_fr {M : Type} [URA M] (c : Dev nD) (Φ : Dev nD → sProp M) :
    bigSep Finset.univ Φ = iprop(Φ c ∗ bigSep Finset.univ fun r => Φ (fr c r)) := bigSep_except _ (fr_inj c) c (fr_ne c) Φ
theorem bigSep_succ {M : Type} [URA M] (Φ : Fin 8 → sProp M) :
    bigSep Finset.univ Φ = iprop(Φ 0 ∗ bigSep Finset.univ fun r : Fin 7 => Φ r.succ) :=
  bigSep_except _ (Fin.succ_injective 7) 0 (fun r => Fin.succ_ne_zero r) Φ
theorem bigSep_erase_sh {M : Type} [URA M] (c : Dev nD) (Φ : Dev nD → sProp M) :
    bigSep (Finset.univ.erase c) Φ = bigSep Finset.univ fun r => Φ (sh c r) := by
  rw [univ_except ⟨sh c, sh_inj c⟩ c (sh_ne c), bigSep_map]; rfl

/-- The seven one by one. -/
theorem bigSep_seven {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## The device numbers and offsets the kernel computes -/

/-- The seven signals go to the seven other devices in order of distance; -/
theorem dev_signal (c : Dev nD) : k0_dev1 c = sh c 0 ∧ k0_dev2 c = sh c 1 ∧ k0_dev3 c = sh c 2 ∧ k0_dev4 c = sh c 3
    ∧ k0_dev5 c = sh c 4 ∧ k0_dev6 c = sh c 5 ∧ k0_dev7 c = sh c 6 := by revert c; decide +kernel
/-- so do the sends of `w` -/
theorem dev_w (c : Dev nD) : k0_dev8 c = sh c 0 ∧ k0_dev10 c = sh c 1 ∧ k0_dev12 c = sh c 2 ∧ k0_dev14 c = sh c 3
    ∧ k0_dev16 c = sh c 4 ∧ k0_dev18 c = sh c 5 ∧ k0_dev20 c = sh c 6 := by revert c; decide +kernel
/-- and those of the blocks of `x`. -/
theorem dev_x (c : Dev nD) : k0_dev9 c = sh c 0 ∧ k0_dev11 c = sh c 1 ∧ k0_dev13 c = sh c 2 ∧ k0_dev15 c = sh c 3
    ∧ k0_dev17 c = sh c 4 ∧ k0_dev19 c = sh c 5 ∧ k0_dev21 c = sh c 6 := by revert c; decide +kernel

/-- The block of `x` the `r`-th send carries starts at row `512 · sh c r`. -/
theorem off4_eq : ∀ (c : Dev nD) (r : Fin 7), k0_off4 c (BitVec.ofNat 32 (1 + r.val)) = ![512 * (sh c r).val, 0] := by decide +kernel
/-- The `r`-th arrival is counted by semaphore `fr c r` and lies in slot `fr c r`. -/
theorem off6_eq : ∀ (c : Dev nD) (r : Fin 7), k0_off6 c (BitVec.ofNat 32 (1 + r.val)) = ![(fr c r).val] := by decide +kernel
/-- The slots the kernel waits on and loads at distance `r`: number `fr c r`. -/
theorem off7_eq : ∀ (c : Dev nD) (r : Fin 7), k0_off7 c (BitVec.ofNat 32 (1 + r.val)) = ![(fr c r).val, 0, 0] := by decide +kernel
theorem off8_eq : ∀ (c : Dev nD) (r : Fin 7), k0_off8 c (BitVec.ofNat 32 (1 + r.val)) = ![(fr c r).val, 0, 0] := by decide +kernel
theorem off9_eq : ∀ (c : Dev nD) (r : Fin 7), k0_off9 c (BitVec.ofNat 32 (1 + r.val)) = ![(fr c r).val, 0, 0] := by decide +kernel
theorem off10_eq : ∀ (c : Dev nD) (r : Fin 7), k0_off10 c (BitVec.ofNat 32 (1 + r.val)) = ![(fr c r).val, 0, 0] := by decide +kernel

/-! ## The buffers -/

/-- The staged operands and the staged result. -/
abbrev xiM : Memref sig .tc .vmem S4096x512 .fp8e5m2 := Memref.whole cc0_stg0_0
abbrev wiM : Memref sig .tc .vmem S512x2048 .fp8e5m2 := Memref.whole cc0_stg1_0
abbrev sxM : Memref sig .tc .smem S1 .f32 := Memref.whole cc0_stg2_0
abbrev swM : Memref sig .tc .smem S1 .f32 := Memref.whole cc0_stg3_0
abbrev oM : Memref sig .tc .vmem S512x2048 .f32 := Memref.whole cc0_stg4_0
/-- The sender's copy of `x`; -/
abbrev xM : Memref sig .tc .vmem S4096x512 .fp8e5m2 := Memref.whole cc0_scratch0
/-- its copy of `w`; the landing buffers of `x` and of `w`. -/
abbrev wM : Memref sig .tc .vmem S512x2048 .fp8e5m2 := Memref.whole cc0_scratch1
abbrev rxM : Memref sig .tc .vmem S8x512x512 .fp8e5m2 := Memref.whole cc0_scratch2
abbrev rwM : Memref sig .tc .vmem S8x512x2048 .fp8e5m2 := Memref.whole cc0_scratch3

/-- The blocks of `x` and the slots lie inside their buffers. -/
theorem inbX (o : Fin 8) : ∀ a, (![512 * o.val, 0] : Fin 2 → ℕ) a + S512x512.size a ≤ S4096x512.size a := by revert o; decide
theorem inbRX (o : Fin 8) : ∀ a, (![o.val, 0, 0] : Fin 3 → ℕ) a + S1x512x512.size a ≤ S8x512x512.size a := by revert o; decide
theorem inbRW (o : Fin 8) : ∀ a, (![o.val, 0, 0] : Fin 3 → ℕ) a + S1x512x2048.size a ≤ S8x512x2048.size a := by revert o; decide

/-- Block `o` of the sender's `x`: rows `512 · o` to `512 · o + 511`. -/
abbrev xRect (o : Fin 8) : Rect S4096x512 := Rect.unit (s := S4096x512) ![512 * o.val, 0] S512x512.size (inbX o)
/-- The place of slot `o` in each landing buffer, and block `o` of the sender's `x`. -/
abbrev rxRect (o : Fin 8) : Rect S8x512x512 := Rect.unit (s := S8x512x512) ![o.val, 0, 0] S1x512x512.size (inbRX o)
abbrev rwRect (o : Fin 8) : Rect S8x512x2048 := Rect.unit (s := S8x512x2048) ![o.val, 0, 0] S1x512x2048.size (inbRW o)
abbrev blkX (o : Fin 8) : Memref sig .tc .vmem S512x512 .fp8e5m2 := xM.slice (xRect o) (fun _ => rfl)
/-- The landing slots for what device `o` sends. -/
abbrev slotX (o : Fin 8) : Memref sig .tc .vmem S512x512 .fp8e5m2 :=
  (rxM.slice (rxRect o) (fun _ => rfl)).squeeze S512x512 squeezes_S1x512x512_S512x512
/-- Slot `o` of the landing buffer of `w`. -/
abbrev slotW (o : Fin 8) : Memref sig .tc .vmem S512x2048 .fp8e5m2 :=
  (rwM.slice (rwRect o) (fun _ => rfl)).squeeze S512x2048 squeezes_S1x512x2048_S512x2048

/-- The elements each of them covers. -/
theorem blkX_set (o : Fin 8) : (blkX o).view.set = (xRect o).set := View.set_slice_whole _ _
theorem slotX_set (o : Fin 8) : (slotX o).view.set = (rxRect o).set := (View.set_reshape _ _).trans (View.set_slice_whole _ _)
theorem slotW_set (o : Fin 8) : (slotW o).view.set = (rwRect o).set := (View.set_reshape _ _).trans (View.set_slice_whole _ _)

/-! ## The semaphores -/

/-- The barrier semaphore. -/
abbrev barS : Sem sig := (SemArray.scalar (sig.barrier 0 rfl) : Sems sig S_).sem

set_option backward.proofsInPublic true in
/-- The kernel's four rows of eight: sends of `w`, sends of `x`, arrivals of `w`, arrivals of `x`. -/
def sem (a : Fin 4) (k : Fin 8) : DmaSem sig := ⟨5 + 8 * a.val + k.val, by have := a.isLt; have := k.isLt; show _ < 37; omega⟩
set_option backward.proofsInPublic true in
/-- Which row and place a semaphore is, the staging ones being in none. -/
def dec (q : DmaSem sig) : Option (Fin 4 × Fin 8) :=
  if q.val < 5 then none else some (⟨(q.val - 5) / 8 % 4, Nat.mod_lt _ (by decide)⟩, ⟨(q.val - 5) % 8, Nat.mod_lt _ (by decide)⟩)

/-- A copy semaphore is known by its array and its number in it. -/
theorem dec_sem (a : Fin 4) (k : Fin 8) : dec (sem a k) = some (a, k) := by revert a k; decide
theorem sem_of_dec (q : DmaSem sig) (ak : Fin 4 × Fin 8) (h : dec q = some ak) : q = sem ak.1 ak.2 := by revert q ak; decide
theorem sem_inj : Function.Injective fun ak : Fin 4 × Fin 8 => sem ak.1 ak.2 := fun x y h =>
  Option.some.inj ((dec_sem x.1 x.2).symm.trans ((congrArg dec h).trans (dec_sem y.1 y.2)))

/-- Device `c`'s barrier semaphore, and its semaphore `k` of array `a`. -/
abbrev barCell (c : Dev nD) : GSem nD τ sig := ((c : Thread nD τ), .reg barS)
abbrev cell (c : Dev nD) (a : Fin 4) (k : Fin 8) : GSem nD τ sig := ((c : Thread nD τ), .dma (sem a k))

/-- The thirty-two copy semaphores by array and number. -/
abbrev osem : Fin 4 × Fin 8 → SemLoc sig := fun ak => .dma (sem ak.1 ak.2)
/-- All of the protocol's semaphores: the barrier and the thirty-two. -/
abbrev csem : Option (Fin 4 × Fin 8) → SemLoc sig := fun | none => .reg barS | some ak => .dma (sem ak.1 ak.2)
/-- All the semaphores the protocol uses. -/
abbrev kcell (ck : Dev nD × Option (Fin 4 × Fin 8)) : GSem nD τ sig := ((ck.1 : Thread nD τ), csem ck.2)

/-- The slice and squeeze of the arrival arrays at offset `o` is semaphore `o`. -/
theorem off1_sem2 (off : Fin 1 → ℕ) (inb) (o : Fin 8) (h : off = ![o.val]) :
    ((cc0_scratch6.slice (Rect.unit (s := S8) off S1.size inb)).squeeze S_ squeezes_S1_S_).sem = sem 2 o := by
  subst h; revert o; decide
theorem off1_sem3 (off : Fin 1 → ℕ) (inb) (o : Fin 8) (h : off = ![o.val]) :
    ((cc0_scratch7.slice (Rect.unit (s := S8) off S1.size inb)).squeeze S_ squeezes_S1_S_).sem = sem 3 o := by
  subst h; revert o; decide

/-- The count of one copy of `w`. -/
abbrev NW : ℕ := (wM : Memref sig .tc .vmem S512x2048 .fp8e5m2).view.dmaCredit
/-- The count of one copy of a block of `x`. -/
abbrev NX : ℕ := (blkX 0).view.dmaCredit
theorem NW_pos : 0 < NW := View.dmaCredit_pos _ (by decide)
theorem NX_pos : 0 < NX := View.dmaCredit_pos _ (by decide)

end Cert.Exchange

end
-- ==== Proof.Schedule.lean ====
/-
# What each semaphore counts and what its count hands over

One round. The barrier semaphore of device `c` is signalled once by each other device `d`, which lends `c` its two
landing slots number `c`; the wait for seven units therefore gives `c` a place for everything it will send. A send
semaphore hands back what the copy read (a share of `w`, a block of `x`); an arrival semaphore hands over the
landing slot holding what the sender `o` sent: all of `o`'s `w`, and block `c` of `o`'s `x`.
-/
module

public import proofs.«01_k».proof.Proof.Cells

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the rounds, and with the pipeline's own. -/
abbrev UB : Type := URounds (GSem nD τ sig) (Fin 8)
abbrev UU : Type := UR sig nD τ × UB

local notation "𝕄" => MT nD τ sig Unit (Elt F) ℕ UU ℕ

/-- Where the rounds' ghost state lives. -/
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Contents -/

/-- The four operands of device `c`, as the kernel finds them. -/
def xin (c : Dev nD) : Vec F S4096x512 .fp8e5m2 := (win0_0.blk (0 : Fin 1)).view.read (Elt F) ((s₀ m ρ).mem ((c : Thread nD τ).loc main_arg0))
def win (c : Dev nD) : Vec F S512x2048 .fp8e5m2 := (win0_1.blk (0 : Fin 1)).view.read (Elt F) ((s₀ m ρ).mem ((c : Thread nD τ).loc main_arg1))
def sxin (c : Dev nD) : Vec F S1 .f32 := (win0_2.blk (0 : Fin 1)).view.read (Elt F) ((s₀ m ρ).mem ((c : Thread nD τ).loc main_arg2))
def swin (c : Dev nD) : Vec F S1 .f32 := (win0_3.blk (0 : Fin 1)).view.read (Elt F) ((s₀ m ρ).mem ((c : Thread nD τ).loc main_arg3))

/-- What device `c` keeps in the buffers it sends from. -/
def xs (c : Dev nD) : Vec F S4096x512 .fp8e5m2 := k0_pay1 (xin m ρ c)
/-- What the sender's `w` holds. -/
def ws (c : Dev nD) : Vec F S512x2048 .fp8e5m2 := k0_pay2 (win m ρ c)
/-- Block `j` of device `o`'s `x`. -/
def xblk (o : Dev nD) (j : Fin 8) : Vec F S512x512 .fp8e5m2 := (blkX j).view.read (Elt F) (xs m ρ o)

/-! ## Pieces of the buffers -/

/-- Block `j` of device `c`'s sender buffer of `x`, holding `c`'s `x`; -/
def xPts (c : Dev nD) (j : Fin 8) : sProp 𝕄 := (blkX j).view.loc (c : Thread nD τ) ↦[(blkX j).view.set]{fullShare} xs m ρ c
/-- the `k`-th share of device `c`'s sender buffer of `w`, holding `c`'s `w`; -/
def wPts (c : Dev nD) (k : Fin 8) : sProp 𝕄 :=
  (wM : Memref sig .tc .vmem S512x2048 .fp8e5m2).view.loc (c : Thread nD τ) ↦[(wM : Memref sig .tc .vmem S512x2048 .fp8e5m2).view.set]{Transfers.dealOf fullShare Finset.univ k} ws m ρ c
/-- device `c`'s landing slots for what `o` sends, at some contents. -/
def freeX (c : Dev nD) (o : Fin 8) : sProp 𝕄 := iprop(∃ f, (slotX o).view.loc (c : Thread nD τ) ↦[(slotX o).view.set]{fullShare} f)
/-- Slot `o` of device `c`'s landing buffer of `w`, at some contents. -/
def freeW (c : Dev nD) (o : Fin 8) : sProp 𝕄 := iprop(∃ f, (slotW o).view.loc (c : Thread nD τ) ↦[(slotW o).view.set]{fullShare} f)

/-- What `d`'s signal hands `c`: `d`'s landing slots for what `c` sends. -/
def barPay (c : Dev nD) (d : Fin 8) : sProp 𝕄 := iprop(freeX d c ∗ freeW d c)

/-- What the copies hand over. -/
def pay (c : Dev nD) : Fin 4 × Fin 8 → sProp 𝕄
  | (⟨0, _⟩, k) => wPts m ρ c k
  | (⟨1, _⟩, k) => xPts m ρ c (c + k)
  | (⟨2, _⟩, o) => owns (c : Thread nD τ) (slotW o) fullShare (ws m ρ o)
  | (⟨_ + 3, _⟩, o) => owns (c : Thread nD τ) (slotX o) fullShare (xblk m ρ o c)

omit [FloatOps F] in
/-- What the cells hand over may be kept in an invariant. -/
instance freeX_storable (c : Dev nD) (o) : BI.Storable (upEmb : UEmb _ 𝕄) (freeX (F := F) c o) := by unfold freeX; infer_instance
omit [FloatOps F] in
instance freeW_storable (c : Dev nD) (o) : BI.Storable (upEmb : UEmb _ 𝕄) (freeW (F := F) c o) := by unfold freeW; infer_instance
instance pay_storable (c : Dev nD) (ak) : BI.Storable (upEmb : UEmb _ 𝕄) (pay (F := F) m ρ c ak) := by
  obtain ⟨⟨a, ha⟩, k⟩ := ak
  match a, ha with
  | 0, _ => unfold pay wPts; infer_instance
  | 1, _ => unfold pay xPts; infer_instance
  | 2, _ => unfold pay owns; infer_instance
  | n + 3, _ => unfold pay owns; infer_instance

/-! ## The schedule -/

/-- Which semaphores are used: place 0 of the send rows and place `c` of the arrival rows are not. -/
def Act (c : Dev nD) (ak : Fin 4 × Fin 8) : Bool := if ak.1.val < 2 then ak.2 ≠ 0 else ak.2 ≠ c
/-- The credit of a copy in row `a`. -/
def amt (a : Fin 4) : ℕ := if a.val % 2 = 0 then NW else NX
/-- Every copy counts. -/
theorem amt_pos (a : Fin 4) : 0 < amt a := by unfold amt; split; exacts [NW_pos, NX_pos]

/-- One round, round 0: a barrier has a duty per other device, a used semaphore the one duty `0`. -/
def rd : Rounds.Schedule (GSem nD τ sig) (Fin 8) 𝕄 where
  duties g r := if r = 0 ∧ g.1.2 = .tc then
      (match g.2 with
        | .reg s => if s = barS then Finset.univ.erase g.1.1 else ∅
        | .dma q => match dec q with | none => ∅ | some ak => if Act g.1.1 ak then {0} else ∅)
    else ∅
  unitless _ := False
  amount g _ _ := match g.2 with
    | .reg _ => 1
    | .dma q => match dec q with | none => 1 | some ak => amt ak.1
  payload g _ d := match g.2 with
    | .reg _ => barPay g.1.1 d
    | .dma q => match dec q with | none => iprop(emp) | some ak => pay m ρ g.1.1 ak
  amount_pos g _ _ _ := by
    split
    · exact Nat.one_pos
    · split
      · exact Nat.one_pos
      · exact amt_pos _

instance rd_payload_storable (g : GSem nD τ sig) (r : ℕ) (d : Fin 8) :
    BI.Storable (upEmb : UEmb _ 𝕄) ((rd (F := F) m ρ).payload g r d) := by
  unfold rd barPay; dsimp only
  split
  · infer_instance
  · split <;> infer_instance

section Sched
variable (c : Dev nD)

/-- The barrier's duties are the other devices; a copy semaphore in use has one, an idle one none, and there is one round. -/
theorem duties_bar : (rd (F := F) m ρ).duties (barCell c) 0 = Finset.univ.erase c := by
  dsimp only [rd]; rw [if_pos ⟨rfl, rfl⟩]; exact if_pos rfl
theorem duties_cell (a : Fin 4) (k : Fin 8) (h : Act c (a, k) = true) : (rd (F := F) m ρ).duties (cell c a k) 0 = {0} := by
  dsimp only [rd]; rw [if_pos ⟨rfl, rfl⟩, dec_sem]; exact if_pos h
theorem duties_idle (a : Fin 4) (k : Fin 8) (h : Act c (a, k) = false) : ∀ r, 0 ≤ r → (rd (F := F) m ρ).duties (cell c a k) r = ∅ := fun r _ => by
  dsimp only [rd]; rw [dec_sem]; simp only [h]; split <;> rfl
theorem duties_later (g : GSem nD τ sig) : ∀ r, 1 ≤ r → (rd (F := F) m ρ).duties g r = ∅ :=
  fun r hr => by dsimp only [rd]; rw [if_neg fun h => by omega]

/-- A signal counts one, a copy its size; the payloads by kind of cell. -/
theorem amount_bar (d : Fin 8) : (rd (F := F) m ρ).amount (barCell c) 0 d = 1 := rfl
theorem amount_cell (a : Fin 4) (k : Fin 8) (d : Fin 8) : (rd (F := F) m ρ).amount (cell c a k) 0 d = amt a := by
  dsimp only [rd]; rw [dec_sem]
theorem payload_bar (d : Fin 8) : (rd (F := F) m ρ).payload (barCell c) 0 d = barPay c d := rfl
theorem payload_cell (a : Fin 4) (k : Fin 8) (d : Fin 8) : (rd (F := F) m ρ).payload (cell c a k) 0 d = pay m ρ c (a, k) := by
  dsimp only [rd]; rw [dec_sem]

/-- A barrier waits for seven units, a copy semaphore for its one copy. -/
theorem expect_bar : (rd (F := F) m ρ).expect (barCell c) 0 = 7 := by
  unfold Schedule.expect Schedule.amountOf
  rw [duties_bar, Finset.sum_congr rfl fun d _ => amount_bar m ρ c d, Finset.sum_const, Finset.card_erase_of_mem (Finset.mem_univ _), Finset.card_univ,
    Fintype.card_fin, smul_eq_mul]
theorem expect_cell (a : Fin 4) (k : Fin 8) (h : Act c (a, k) = true) : (rd (F := F) m ρ).expect (cell c a k) 0 = amt a := by
  unfold Schedule.expect Schedule.amountOf; rw [duties_cell m ρ c a k h, Finset.sum_singleton, amount_cell]

/-- A barrier's count hands over a pair of landing slots on each other device; -/
theorem rest_bar : bigSep ((rd (F := F) m ρ).duties (barCell c) 0 \ ∅) (fun d => (rd (F := F) m ρ).payload (barCell c) 0 d)
    = bigSep Finset.univ fun r => barPay c (sh c r) := by
  rw [Finset.sdiff_empty, duties_bar, bigSep_erase_sh]; rfl
/-- a used semaphore's, what its copy hands over. -/
theorem rest_cell (a : Fin 4) (k : Fin 8) (h : Act c (a, k) = true) :
    bigSep ((rd (F := F) m ρ).duties (cell c a k) 0 \ ∅) (fun d => (rd (F := F) m ρ).payload (cell c a k) 0 d) = pay m ρ c (a, k) := by
  rw [Finset.sdiff_empty, duties_cell m ρ c a k h, bigSep_singleton, payload_cell]

end Sched

/-- Which copy semaphores are in use: of the sends all but number 0, of the arrivals all but the device's own number. -/
theorem act_send (c : Dev nD) (a : Fin 4) (ha : a.val < 2) (r : Fin 7) : Act c (a, r.succ) = true := by
  unfold Act; rw [if_pos ha]; exact decide_eq_true (Fin.succ_ne_zero r)
theorem act_recv (c : Dev nD) (a : Fin 4) (ha : ¬ a.val < 2) (r : Fin 7) : Act c (a, fr c r) = true := by
  unfold Act; rw [if_neg ha]; exact decide_eq_true (fr_ne c r)
theorem act_recv' (c : Dev nD) (a : Fin 4) (ha : ¬ a.val < 2) (r : Fin 7) : Act (sh c r) (a, c) = true := by
  unfold Act; rw [if_neg ha]; exact decide_eq_true (sh_ne c r).symm
theorem idle_send (c : Dev nD) (a : Fin 4) (ha : a.val < 2) : Act c (a, 0) = false := by
  unfold Act; rw [if_pos ha]; exact decide_eq_false (fun h => h rfl)
theorem idle_recv (c : Dev nD) (a : Fin 4) (ha : ¬ a.val < 2) : Act c (a, c) = false := by
  unfold Act; rw [if_neg ha]; exact decide_eq_false (fun h => h rfl)

/-! ## What each device owes at launch -/

/-- The sum of a list of credits, each on its cell; the head is what is paid first. -/
def tally : List (GSem nD τ sig × ℕ) → CellTallies nD τ sig Unit
  | [] => 0
  | p :: ps => tally ps + tallyAt p.1 () p.2

/-- A cell that something is owed to is on the list. -/
theorem tally_pos {ps : List (GSem nD τ sig × ℕ)} {g : GSem nD τ sig} {u : Unit} (h : 0 < tally ps g u) : ∃ p ∈ ps, g = p.1 := by
  induction ps with
  | nil => exact absurd h (Nat.lt_irrefl 0)
  | cons p ps ih =>
    unfold tally at h
    rw [Pi.add_apply, Finsupp.add_apply, tallyAt_apply] at h
    by_cases hg : g = p.1
    · exact ⟨p, List.mem_cons_self, hg⟩
    · rw [if_neg (fun h' => hg h'.1), Nat.add_zero] at h
      obtain ⟨q, hq, e⟩ := ih h
      exact ⟨q, List.mem_cons_of_mem _ hq, e⟩

/-- What is owed a cell is the sum over its entries of the list. -/
theorem tally_apply (ps : List (GSem nD τ sig × ℕ)) (g : GSem nD τ sig) :
    tally ps g () = (ps.map fun p => if g = p.1 then p.2 else 0).sum := by
  induction ps with
  | nil => rfl
  | cons p ps ih =>
    unfold tally
    rw [Pi.add_apply, Finsupp.add_apply, tallyAt_apply, ih, List.map_cons, List.sum_cons, Nat.add_comm]
    congr 1
    by_cases h : g = p.1
    · rw [if_pos ⟨h, rfl⟩, if_pos h]
    · rw [if_neg (fun h' => h h'.1), if_neg h]

/-- What a device owes by its `r`-th signal: a unit to a barrier. -/
def sig1 (c : Dev nD) (r : Fin 7) : GSem nD τ sig × ℕ := (barCell (sh c r), 1)
/-- What a device owes by its `r`-th pair of sends. -/
def sendW1 (c : Dev nD) (r : Fin 7) : GSem nD τ sig × ℕ := (cell (sh c r) 2 c, NW)
def sendX1 (c : Dev nD) (r : Fin 7) : GSem nD τ sig × ℕ := (cell (sh c r) 3 c, NX)
/-- What it owes by all its sends, and with the seven barrier signals. -/
abbrev sends (c : Dev nD) : List (GSem nD τ sig × ℕ) :=
  [sendW1 c 0, sendX1 c 0, sendW1 c 1, sendX1 c 1, sendW1 c 2, sendX1 c 2, sendW1 c 3, sendX1 c 3, sendW1 c 4, sendX1 c 4, sendW1 c 5, sendX1 c 5, sendW1 c 6, sendX1 c 6]
abbrev dues (c : Dev nD) : List (GSem nD τ sig × ℕ) :=
  sig1 c 0 :: sig1 c 1 :: sig1 c 2 :: sig1 c 3 :: sig1 c 4 :: sig1 c 5 :: sig1 c 6 :: sends c

/-- Sends are owed to arrival semaphores of others; the other debts are to their barriers. -/
theorem mem_sends {c : Dev nD} {p} (h : p ∈ sends c) : ∃ a : Fin 4, ∃ r : Fin 7, 2 ≤ a.val ∧ p.1 = cell (sh c r) a c := by
  simp only [sends, List.mem_cons, List.not_mem_nil, or_false] at h
  rcases h with h | h | h | h | h | h | h | h | h | h | h | h | h | h <;> subst h <;>
    first | exact ⟨2, _, by decide, rfl⟩ | exact ⟨3, _, by decide, rfl⟩
theorem mem_dues {c : Dev nD} {p} (h : p ∈ dues c) : (∃ r : Fin 7, p.1 = barCell (sh c r)) ∨ p ∈ sends c := by
  rw [dues, List.mem_cons, List.mem_cons, List.mem_cons, List.mem_cons, List.mem_cons, List.mem_cons, List.mem_cons] at h
  rcases h with h | h | h | h | h | h | h | h
  on_goal 8 => exact .inr h
  all_goals (subst h; exact .inl ⟨_, rfl⟩)

/-- What a device owes at the start. -/
def O₀ (c : Dev nD) : CellTallies nD τ sig Unit := tally (dues c)

/-- Every cell of a TensorCore is waited on. -/
def L (g : GSem nD τ sig) : Finset Unit := if g.1.2 = .tc then {()} else ∅
/-- Barriers are waited for before arrivals; staging copies and sends before either. -/
def lv (g : GSem nD τ sig) (_ : Unit) : ℕ := match g.2 with
  | .reg _ => 1
  | .dma q => match dec q with | none => 0 | some ak => if ak.1.val < 2 then 0 else 2

/-- The two cases of `L`; and an arrival's level is two. -/
theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (a : Fin 4) (h : 2 ≤ a.val) (k : Fin 8) : lv (cell c a k) () = 2 := by
  dsimp only [lv]; rw [dec_sem]; exact if_neg (by simpa using h)

/-- A staging semaphore may be waited for whatever the launch owes. -/
theorem mayWait_stage (c : Dev nD) (q : DmaSem sig) (hq : dec q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; dsimp only [lv]; rw [hq]) (fun g u hg => ?_)
    all_goals
      obtain ⟨p, hp, rfl⟩ := tally_pos hg
      rcases mem_dues hp with ⟨r, h⟩ | h
      on_goal 2 => obtain ⟨a, r, ha, h⟩ := mem_sends h
      all_goals rw [h]
    · rw [L_tc]; exact Finset.mem_singleton_self _
    · rw [L_tc]; exact Finset.mem_singleton_self _
    · exact Nat.one_pos
    · rw [lv_recv _ _ ha]; decide
  · rw [MayWait_zero]; iintro -; iempintro

/-- At its barrier a device owes arrivals only. -/
theorem mayWait_bar (c : Dev nD) : (levAts L lv : sProp 𝕄) ⊢ MayWait (c : Thread nD τ) (.reg barS) () (tally (sends c)) :=
  MayOwe.of_cut (L := L) (lev := lv) 1 (fun p hp => by rw [Finset.mem_singleton.mp hp, L_tc]; exact Finset.mem_singleton_self _)
    (fun g u hg => by
      obtain ⟨p, hp, rfl⟩ := tally_pos hg
      obtain ⟨a, r, ha, h⟩ := mem_sends hp
      rw [h, L_tc]; exact Finset.mem_singleton_self _)
    (fun p hp => by rw [Finset.mem_singleton.mp hp]; exact Nat.le_refl 1)
    (fun g u hg => by
      obtain ⟨p, hp, rfl⟩ := tally_pos hg
      obtain ⟨a, r, ha, h⟩ := mem_sends hp
      rw [h, lv_recv _ _ ha]; decide)

end Cert.Exchange

end
-- ==== Proof.Steps.lean ====
/-
# One rule per kind of step of the kernel

Each rule takes the step in the form the kernel has it, at any distance `r`, with the device number, the offset or
the semaphore it names as variables and what they are equal to as hypotheses.
-/
module

public import proofs.«01_k».proof.Proof.Schedule

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows -/

/-- Every cell's invariant, under the names `K`, and that every cell is at round 0 or later. -/
def records (K : Dev nD × Option (Fin 4 × Fin 8) → ℕ) : sProp 𝕄 :=
  iprop((bigSep Finset.univ fun ck : Dev nD × Option (Fin 4 × Fin 8) => cellInv ER (rd m ρ) (K ck) (kcell ck))
    ∗ bigSep Finset.univ fun ck : Dev nD × Option (Fin 4 × Fin 8) => reached ER (kcell ck) 0)

instance records_persistent (K : Dev nD × Option (Fin 4 × Fin 8) → ℕ) : BI.Persistent (records (F := F) m ρ K) := by unfold records; infer_instance

variable (K : Dev nD × Option (Fin 4 × Fin 8) → ℕ)

/-- Of any cell, the records give its invariant. -/
theorem records_inv (ck : Dev nD × Option (Fin 4 × Fin 8)) : records (F := F) m ρ K ⊢ cellInv ER (rd m ρ) (K ck) (kcell ck) := by
  unfold records; iintro ⟨H, -⟩
  iapply (show (bigSep Finset.univ fun ck : Dev nD × Option (Fin 4 × Fin 8) => (cellInv ER (rd m ρ) (K ck) (kcell ck) : sProp 𝕄)) ⊢ cellInv ER (rd m ρ) (K ck) (kcell ck) from
    bigSep_elim (Finset.mem_univ ck)); iexact H
/-- Of any cell, the records say that its round has begun. -/
theorem records_reached (ck : Dev nD × Option (Fin 4 × Fin 8)) : records (F := F) m ρ K ⊢ reached ER (kcell ck) 0 := by
  unfold records; iintro ⟨-, H⟩
  iapply (show (bigSep Finset.univ fun ck : Dev nD × Option (Fin 4 × Fin 8) => (reached ER (kcell ck) 0 : sProp 𝕄)) ⊢ reached ER (kcell ck) 0 from
    bigSep_elim (Finset.mem_univ ck)); iexact H

/-- What a device still owes, whatever it has waited for. -/
def owing (c : Dev nD) (ps : List (GSem nD τ sig × ℕ)) : sProp 𝕄 := iprop(∃ W, owes (c : Thread nD τ) (tally ps) W)

/-- What a copy counts: by its size, whichever slot it lands in. -/
theorem credX (o : Fin 8) : (slotX o).view.dmaCredit = NX := rfl
theorem credW (o : Fin 8) : (slotW o).view.dmaCredit = NW := rfl
theorem credB (o : Fin 8) : (blkX o).view.dmaCredit = NX := rfl

/-- The device `r + 1` places after is `c` plus `r + 1`. -/
theorem sh_add (c : Dev nD) (r : Fin 7) : sh c r = c + r.succ := by revert c r; decide

/-! ## The entry handshake -/

/-- The signal of the device at distance `r`: the landing slots it will send to are lent to it. -/
theorem step_signal (c n : Dev nD) (r : Fin 7) (hn : n.val = sh c r) (ps : List (GSem nD τ sig × ℕ)) {α : Type} {Q : α → sProp 𝕄} {k : PUnit → Prog (TpuEff nD τ sig (Elt F) Λ₀ .tc) α} :
    iprop(records m ρ K ∗ owing c (sig1 c r :: ps) ∗ dutyTok ER (barCell (sh c r)) 0 c ∗ freeX c (sh c r) ∗ freeW c (sh c r))
      ⊢ iprop((owing c ps -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) barS (1#32).toInt) k) Q) := by
  obtain rfl : n = sh c r := Fin.ext hn
  unfold owing
  iintro ⟨#HR, ⟨%W, HO⟩, Ht, HX, HW⟩ Hk
  iapply (Rounds.wp_signal 𝒱₀ ER (rd m ρ) (c : Thread nD τ) none (dst := (sh c r : Thread nD τ)) (κ := K (sh c r, none))
      (d := c) (by rw [duties_bar]; exact Finset.mem_erase.mpr ⟨(sh_ne c r).symm, Finset.mem_univ _⟩) (amount_bar m ρ (sh c r) c) () (tally ps) rfl)
    $$ [HO Ht HX HW]
  · isplitr; · iapply (records_inv m ρ K (sh c r, none)); iexact HR
    isplitl [HO]; · iexact HO
    isplitl [Ht]; · iexact Ht
    isplitl [HX HW]
    · rw [payload_bar]; unfold barPay
      isplitl [HX] <;> iassumption
    iapply (records_reached m ρ K (sh c r, none)); iexact HR
  iintro HO
  iapply Hk
  iexists W; iexact HO

/-- The wait for all seven signals: landing slots on every other device. -/
theorem step_barrier (c : Dev nD) {α : Type} {Q : α → sProp 𝕄} {k : PUnit → Prog (TpuEff nD τ sig (Elt F) Λ₀ .tc) α} :
    iprop(records m ρ K ∗ owing c (sends c) ∗ levAts L lv ∗ cred (tallyAt (barCell c) () 7) ∗ atPos ER (barCell c) 0 ∅ 0)
      ⊢ iprop(((owing c (sends c) ∗ semVal (barCell c) 0 ∗ bigSep Finset.univ fun r => iprop(freeX (sh c r) c ∗ freeW (sh c r) c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (7#32).toInt) k) Q) := by
  unfold owing
  iintro ⟨#HR, ⟨%W, HO⟩, #Hlev, Hc, Hat⟩ Hk
  iapply (Rounds.wp_wait_rest_token 𝒱₀ ER (rd m ρ) (c : Thread nD τ) none (κ := K (c, none))
      (wpE_semWait_eq 𝒱₀ (c : Thread nD τ) none Set.univ) (Set.mem_univ _) () (O := tally (sends c)) (W := W) (R := 0) (m := 0) (T := ∅)
      (by rw [expect_bar]; decide)) $$ [Hc HO Hat]
  · isplitr; · iapply (records_inv m ρ K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (rd m ρ) (Set.mem_univ (K (c, none))) (fun h => h) (R := 0 + 1) (duties_later m ρ (barCell c))) $$ [Hat] with Hz
  · isplitr; · iapply (records_inv m ρ K (c, none)); iexact HR
    iexact Hat
  iapply Hk
  isplitl [HO]; · iexists _; iexact HO
  isplitl [Hz]; · iexact Hz
  iexact Hp

/-! ## The sends -/

/-- The send of `w` to the device at distance `r`. -/
theorem step_sendW (c n : Dev nD) (r : Fin 7) (hn : n.val = sh c r) (ps : List (GSem nD τ sig × ℕ))
    (off : Fin 3 → ℕ) (hoff : off = ![c.val, 0, 0]) (inb : ∀ a, off a + S1x512x2048.size a ≤ S8x512x2048.size a)
    (sS sR : DmaSem sig) (hS : sS = sem 0 r.succ) (hR : sR = sem 2 c)
    {hsc} {hsrc : (wM : Memref sig .tc .vmem S512x2048 .fp8e5m2).view.WordExact} {hdst}
    {hsem : DmaTarget.Typed .vmem (.dma sR) (.remote (Dev.tc n : Thread nD τ) ((rwM.slice (Rect.unit (s := S8x512x2048) off S1x512x2048.size inb) (fun _ => rfl)).squeeze S512x2048 squeezes_S1x512x2048_S512x2048) (.dma sS) hsc)}
    {α : Type} {Q : α → sProp 𝕄} {k : PUnit → Prog (TpuEff nD τ sig (Elt F) Λ₀ .tc) α} :
    iprop(records m ρ K ∗ owing c (sendW1 c r :: ps) ∗ wPts m ρ c r.succ ∗ freeW (sh c r) c
        ∗ dutyTok ER (cell c 0 r.succ) 0 0 ∗ dutyTok ER (cell (sh c r) 2 c) 0 0)
      ⊢ iprop(((owing c ps ∗ cred (tallyAt (cell c 0 r.succ) () (amt 0))) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma wM (.remote (Dev.tc n : Thread nD τ) ((rwM.slice (Rect.unit (s := S8x512x2048) off S1x512x2048.size inb) (fun _ => rfl)).squeeze S512x2048 squeezes_S1x512x2048_S512x2048) (.dma sS) hsc) (.dma sR) hsrc hdst hsem) k) Q) := by
  obtain rfl : n = sh c r := Fin.ext hn
  subst hoff; subst hS; subst hR
  unfold owing freeW
  iintro ⟨#HR, ⟨%W, HO⟩, Hs, ⟨%fd, Hd⟩, HtS, HtR⟩ Hk
  unfold wPts
  iapply (Rounds.wp_send_pointsTo 𝒱₀ ER (rd m ρ) (c : Thread nD τ) none (κ₁ := K (c, some (0, r.succ))) (κ₂ := K (sh c r, some (2, c)))
    (c' := (sh c r : Thread nD τ)) (dst := slotW c) (sem := .dma (sem 2 c)) (r₁ := 0) (r₂ := 0) (d₁ := 0) (d₂ := 0) (fd := fd)
    (by rw [duties_cell m ρ c 0 r.succ (act_send c 0 (by decide) r)]; exact Finset.mem_singleton_self _)
    (by rw [duties_cell m ρ (sh c r) 2 c (act_recv' c 2 (by decide) r)]; exact Finset.mem_singleton_self _)
    () () NW (credW c) (amount_cell m ρ c 0 _ 0) (amount_cell m ρ (sh c r) 2 _ 0) (tally ps) rfl (W := W)
    (by rw [payload_cell]; exact BI.Entails.refl _)
    (by
      rw [payload_cell]
      show _ ⊢ owns _ _ _ _
      unfold owns
      iintro H
      iexists _
      isplitr [H]; swap; · iexact H
      ipureintro
      rw [View.read_write_univ]; rfl)) $$ [HO Hs Hd HtS HtR]
  · isplitr; · iapply (records_inv m ρ K (c, some (0, r.succ))); iexact HR
    isplitr; · iapply (records_inv m ρ K (sh c r, some (2, c))); iexact HR
    isplitl [Hs]; · iexact Hs
    isplitl [Hd]; · iexact Hd
    isplitl [HO]; · iexact HO
    isplitl [HtS]; · iexact HtS
    isplitr; · iapply (records_reached m ρ K (c, some (0, r.succ))); iexact HR
    isplitl [HtR]; · iexact HtR
    iapply (records_reached m ρ K (sh c r, some (2, c))); iexact HR
  iintro ⟨Hc, HO⟩
  iapply Hk
  isplitl [HO]; · iexists _; iexact HO
  iexact Hc

/-- The send of a block of `x` to the device at distance `r`. -/
theorem step_sendX (c n : Dev nD) (r : Fin 7) (hn : n.val = sh c r) (ps : List (GSem nD τ sig × ℕ))
    (off₁ : Fin 2 → ℕ) (hoff₁ : off₁ = ![512 * (sh c r).val, 0]) (inb₁ : ∀ a, off₁ a + S512x512.size a ≤ S4096x512.size a)
    (off : Fin 3 → ℕ) (hoff : off = ![c.val, 0, 0]) (inb : ∀ a, off a + S1x512x512.size a ≤ S8x512x512.size a)
    (sS sR : DmaSem sig) (hS : sS = sem 1 r.succ) (hR : sR = sem 3 c)
    {hsc} {hsrc : (xM.slice (Rect.unit (s := S4096x512) off₁ S512x512.size inb₁) (fun _ => rfl)).view.WordExact} {hdst}
    {hsem : DmaTarget.Typed .vmem (.dma sR) (.remote (Dev.tc n : Thread nD τ) ((rxM.slice (Rect.unit (s := S8x512x512) off S1x512x512.size inb) (fun _ => rfl)).squeeze S512x512 squeezes_S1x512x512_S512x512) (.dma sS) hsc)}
    {α : Type} {Q : α → sProp 𝕄} {k : PUnit → Prog (TpuEff nD τ sig (Elt F) Λ₀ .tc) α} :
    iprop(records m ρ K ∗ owing c (sendX1 c r :: ps) ∗ xPts m ρ c (sh c r) ∗ freeX (sh c r) c
        ∗ dutyTok ER (cell c 1 r.succ) 0 0 ∗ dutyTok ER (cell (sh c r) 3 c) 0 0)
      ⊢ iprop(((owing c ps ∗ cred (tallyAt (cell c 1 r.succ) () (amt 1))) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (xM.slice (Rect.unit (s := S4096x512) off₁ S512x512.size inb₁) (fun _ => rfl)) (.remote (Dev.tc n : Thread nD τ) ((rxM.slice (Rect.unit (s := S8x512x512) off S1x512x512.size inb) (fun _ => rfl)).squeeze S512x512 squeezes_S1x512x512_S512x512) (.dma sS) hsc) (.dma sR) hsrc hdst hsem) k) Q) := by
  obtain rfl : n = sh c r := Fin.ext hn
  subst hoff; subst hoff₁; subst hS; subst hR
  unfold owing freeX
  iintro ⟨#HR, ⟨%W, HO⟩, Hs, ⟨%fd, Hd⟩, HtS, HtR⟩ Hk
  unfold xPts
  iapply (Rounds.wp_send_pointsTo 𝒱₀ ER (rd m ρ) (c : Thread nD τ) none (κ₁ := K (c, some (1, r.succ))) (κ₂ := K (sh c r, some (3, c)))
    (c' := (sh c r : Thread nD τ)) (src := blkX (sh c r)) (dst := slotX c) (sem := .dma (sem 3 c)) (r₁ := 0) (r₂ := 0) (d₁ := 0) (d₂ := 0) (fd := fd)
    (by rw [duties_cell m ρ c 1 r.succ (act_send c 1 (by decide) r)]; exact Finset.mem_singleton_self _)
    (by rw [duties_cell m ρ (sh c r) 3 c (act_recv' c 3 (by decide) r)]; exact Finset.mem_singleton_self _)
    () () NX (credX c) (amount_cell m ρ c 1 _ 0) (amount_cell m ρ (sh c r) 3 _ 0) (tally ps) rfl (W := W)
    (by rw [payload_cell]; show _ ⊢ xPts m ρ c (c + r.succ); rw [← sh_add]; exact BI.Entails.refl _)
    (by
      rw [payload_cell]
      show _ ⊢ owns _ _ _ _
      unfold owns
      iintro H
      iexists _
      isplitr [H]; swap; · iexact H
      ipureintro
      rw [View.read_write_univ]; rfl)) $$ [HO Hs Hd HtS HtR]
  · isplitr; · iapply (records_inv m ρ K (c, some (1, r.succ))); iexact HR
    isplitr; · iapply (records_inv m ρ K (sh c r, some (3, c))); iexact HR
    isplitl [Hs]; · iexact Hs
    isplitl [Hd]; · iexact Hd
    isplitl [HO]; · iexact HO
    isplitl [HtS]; · iexact HtS
    isplitr; · iapply (records_reached m ρ K (c, some (1, r.succ))); iexact HR
    isplitl [HtR]; · iexact HtR
    iapply (records_reached m ρ K (sh c r, some (3, c))); iexact HR
  iintro ⟨Hc, HO⟩
  iapply Hk
  isplitl [HO]; · iexists _; iexact HO
  iexact Hc

/-! ## The waits for the copies -/

/-- The wait on a used semaphore, nothing being owed any more: what its copy hands over, and the counter at zero. -/
theorem step_wait (c : Dev nD) (a : Fin 4) (j : Fin 8) (hact : Act c (a, j) = true) (s : DmaSem sig) (hs : s = sem a j)
    {sp sp' : Space} {s₁ s₂ : Shape} {e₁ e₂ : EltTy} {src : Memref sig .tc sp' s₁ e₁} {dst : Memref sig .tc sp s₂ e₂}
    {hsrc : src.view.WordExact} {hdst : dst.view.WordExact} (hN : dst.view.dmaCredit = amt a)
    {α : Type} {Q : α → sProp 𝕄} {k : PUnit → Prog (TpuEff nD τ sig (Elt F) Λ₀ .tc) α} :
    iprop(records m ρ K ∗ owing c [] ∗ cred (tallyAt (cell c a j) () (amt a)) ∗ atPos ER (cell c a j) 0 ∅ 0)
      ⊢ iprop(((owing c [] ∗ semVal (cell c a j) 0 ∗ pay m ρ c (a, j)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs
  unfold owing
  iintro ⟨#HR, ⟨%W, HO⟩, Hc, Hat⟩ Hk
  rw [← hN]
  iapply (Rounds.wp_wait_rest_token 𝒱₀ ER (rd m ρ) (c : Thread nD τ) none (κ := K (c, some (a, j)))
      (wpE_waitDma2_eq 𝒱₀ (c : Thread nD τ) none Set.univ) (Set.mem_univ _) () (O := 0) (W := W) (R := 0) (m := 0) (T := ∅)
      (by rw [Nat.zero_add, expect_cell m ρ c a j hact, hN])) $$ [Hc HO Hat]
  · isplitr; · iapply (records_inv m ρ K (c, some (a, j))); iexact HR
    isplitl [Hc]; · iexact Hc
    isplitl [HO]; · iexact HO
    isplitr; · rw [MayWait_zero]; iempintro
    iexact Hat
  iintro ⟨HO, Hat, -, Hpay⟩
  ihave Hp := (Entails.of_eq (rest_cell m ρ c a j hact)) $$ Hpay
  imod (Rounds.cell_close ER (rd m ρ) (Set.mem_univ (K (c, some (a, j)))) (fun h => h) (R := 0 + 1) (duties_later m ρ (cell c a j))) $$ [Hat] with Hz
  · isplitr; · iapply (records_inv m ρ K (c, some (a, j))); iexact HR
    iexact Hat
  iapply Hk
  isplitl [HO]; · iexists _; iexact HO
  isplitl [Hz]; · iexact Hz
  iexact Hp

/-- A semaphore no copy uses has its counter at zero. -/
theorem close_idle (c : Dev nD) (a : Fin 4) (j : Fin 8) (h : Act c (a, j) = false) :
    iprop(records m ρ K ∗ atPos ER (cell c a j) 0 ∅ 0) ⊢ |={Set.univ}=> (semVal (cell c a j) 0 : sProp 𝕄) := by
  iintro ⟨#HR, Hat⟩
  imod (Rounds.cell_close ER (rd m ρ) (Set.mem_univ (K (c, some (a, j)))) (fun h => h) (R := 0) (duties_idle m ρ c a j h)) $$ [Hat] with Hz
  · isplitr; · iapply (records_inv m ρ K (c, some (a, j))); iexact HR
    iexact Hat
  imodintro; iexact Hz

/-! ## The loads -/

/-- What landed in a slot, as the one-high stack a load of the slot reads. -/
def upX (X : Vec F S512x512 .fp8e5m2) : Vec F S1x512x512 .fp8e5m2 := shapeCast S1x512x512 X (by decide)
/-- A slab of `w` with the slot's leading axis. -/
def upW (X : Vec F S512x2048 .fp8e5m2) : Vec F S1x512x2048 .fp8e5m2 := shapeCast S1x512x2048 X (by decide)

omit [FloatOps F] in
/-- What a view reads is what its reshaping reads, shaped back. -/
theorem read_up {κ : Kind} {sp : Space} {s s' : Shape} {e : EltTy} (v : View sig κ sp s e) (h : s'.numel = s.numel) (h' : s'.ShapeCasts s)
    (f : v.ty.Contents (Elt F)) : v.read (Elt F) f = shapeCast s ((v.reshape s' h).read (Elt F) f) h' := by
  funext x
  show _ = v.read (Elt F) f (Shape.reshapeEquiv h (Shape.reshapeEquiv h' x))
  rw [Shape.reshapeEquiv_reshapeEquiv, Shape.reshapeEquiv_self]

/-- The load of landing slot `o` of `x`; -/
theorem step_loadX (c : Dev nD) (o : Fin 8) (X : Vec F S512x512 .fp8e5m2) (off : Fin 3 → ℕ) (hoff : off = ![o.val, 0, 0])
    (inb : ∀ a, off a + S1x512x512.size a ≤ S8x512x512.size a) {hl}
    {α : Type} {Q : α → sProp 𝕄} {k : Vec F S1x512x512 .fp8e5m2 → Prog (TpuEff nD τ sig (Elt F) Λ₀ .tc) α} :
    (owns (c : Thread nD τ) (slotX o) fullShare X : sProp 𝕄)
      ⊢ iprop((owns (c : Thread nD τ) (slotX o) fullShare X -∗ wp frame (wpE (defs₀ (F := F)) 𝒱₀ (c : Thread nD τ) none) Set.univ (k (upX X)) Q)
          -∗ wp frame (wpE (defs₀ (F := F)) 𝒱₀ (c : Thread nD τ) none) Set.univ
            (.op (.load rxM (Rect.unit (s := S8x512x512) off S1x512x512.size inb).toLoadRect hl) k) Q) := by
  subst hoff
  unfold owns
  iintro ⟨%f, %hf, H⟩ Hk
  iapply (wp_load_rect 𝒱₀ (c : Thread nD τ) none Set.univ (m := rxM) (r := rxRect o) (S := (slotX o).view.set) (f := f)
    (by rw [View.set_reshape])) $$ H
  iintro H
  have e : (rxM.access (rxRect o)).read (Elt F) f = upX X := by rw [← hf]; exact read_up (rxM.access (rxRect o)) _ _ f
  rw [e]
  iapply Hk
  iexists f
  isplitr; · ipureintro; exact hf
  iexact H

/-- of landing slot `o` of `w`. -/
theorem step_loadW (c : Dev nD) (o : Fin 8) (X : Vec F S512x2048 .fp8e5m2) (off : Fin 3 → ℕ) (hoff : off = ![o.val, 0, 0])
    (inb : ∀ a, off a + S1x512x2048.size a ≤ S8x512x2048.size a) {hl}
    {α : Type} {Q : α → sProp 𝕄} {k : Vec F S1x512x2048 .fp8e5m2 → Prog (TpuEff nD τ sig (Elt F) Λ₀ .tc) α} :
    (owns (c : Thread nD τ) (slotW o) fullShare X : sProp 𝕄)
      ⊢ iprop((owns (c : Thread nD τ) (slotW o) fullShare X -∗ wp frame (wpE (defs₀ (F := F)) 𝒱₀ (c : Thread nD τ) none) Set.univ (k (upW X)) Q)
          -∗ wp frame (wpE (defs₀ (F := F)) 𝒱₀ (c : Thread nD τ) none) Set.univ
            (.op (.load rwM (Rect.unit (s := S8x512x2048) off S1x512x2048.size inb).toLoadRect hl) k) Q) := by
  subst hoff
  unfold owns
  iintro ⟨%f, %hf, H⟩ Hk
  iapply (wp_load_rect 𝒱₀ (c : Thread nD τ) none Set.univ (m := rwM) (r := rwRect o) (S := (slotW o).view.set) (f := f)
    (by rw [View.set_reshape])) $$ H
  iintro H
  have e : (rwM.access (rwRect o)).read (Elt F) f = upW X := by rw [← hf]; exact read_up (rwM.access (rwRect o)) _ _ f
  rw [e]
  iapply Hk
  iexists f
  isplitr; · ipureintro; exact hf
  iexact H

/-- The load of the device's own block of `x`, -/
theorem step_loadOwnX (c : Dev nD) (off : Fin 2 → ℕ) (hoff : off = ![512 * c.val, 0])
    (inb : ∀ a, off a + S512x512.size a ≤ S4096x512.size a) {hl}
    {α : Type} {Q : α → sProp 𝕄} {k : Vec F S512x512 .fp8e5m2 → Prog (TpuEff nD τ sig (Elt F) Λ₀ .tc) α} :
    xPts m ρ c c
      ⊢ iprop((xPts m ρ c c -∗ wp frame (wpE (defs₀ (F := F)) 𝒱₀ (c : Thread nD τ) none) Set.univ (k (xblk m ρ c c)) Q)
          -∗ wp frame (wpE (defs₀ (F := F)) 𝒱₀ (c : Thread nD τ) none) Set.univ
            (.op (.load xM (Rect.unit (s := S4096x512) off S512x512.size inb).toLoadRect hl) k) Q) := by
  subst hoff
  unfold xPts
  exact wp_load_rect 𝒱₀ (c : Thread nD τ) none Set.univ (m := xM) (r := xRect c) (S := (blkX c).view.set) (f := xs m ρ c) (Finset.Subset.refl _)

theorem off_zero : (![0, 0] : Fin 2 → ℕ) = fun _ => 0 := funext fun a => by fin_cases a <;> rfl

/-- and of its `w`. -/
theorem step_loadOwnW (c : Dev nD) {inb} {hl}
    {α : Type} {Q : α → sProp 𝕄} {k : Vec F S512x2048 .fp8e5m2 → Prog (TpuEff nD τ sig (Elt F) Λ₀ .tc) α} :
    wPts m ρ c 0
      ⊢ iprop((wPts m ρ c 0 -∗ wp frame (wpE (defs₀ (F := F)) 𝒱₀ (c : Thread nD τ) none) Set.univ (k (ws m ρ c)) Q)
          -∗ wp frame (wpE (defs₀ (F := F)) 𝒱₀ (c : Thread nD τ) none) Set.univ
            (.op (.load wM (Rect.unit (s := S512x2048) ![0, 0] S512x2048.size inb).toLoadRect hl) k) Q) := by
  unfold wPts
  have e : (wM : Memref sig .tc .vmem S512x2048 .fp8e5m2).view.readAt (Elt F) (Rect.unit (s := S512x2048) ![0, 0] S512x2048.size inb).toLoadRect (ws m ρ c) = ws m ρ c :=
    Memref.readAt_unit_zero (Elt F) cc0_scratch1 off_zero _ _
  iintro H Hk
  iapply (wp_load 𝒱₀ (c : Thread nD τ) none Set.univ (m := wM) (by rw [View.set_whole]; exact Finset.subset_univ _)) $$ H
  iintro H
  rw [e]
  iapply Hk; iexact H

end Cert.Exchange

end
-- ==== Proof.Pieces.lean ====
/-
# The scratch buffers in pieces, and the kernel's steps pair by pair

The sender's `x` is cut into its eight blocks, the sender's `w` is shared out eight ways, each landing buffer is cut
into its eight slots; at the end the pieces are put together again. The kernel's sends, its arrivals and its waits for
its own sends come in groups of one shape at each distance `r`: one rule per group.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cutting and joining -/

/-- The eight blocks of the sender's `x` are disjoint and make it up. -/
theorem xSets_disj (o o' : Fin 8) (h : o ≠ o') : Disjoint (blkX o).view.set (blkX o').view.set := by
  rw [blkX_set, blkX_set]
  exact Ring.lead_disjoint (s := S4096x512) (0 : Fin 2) 512 (fun o : Fin 8 => ![512 * o.val, 0]) S512x512.size inbX (fun _ => rfl) rfl o o' h
theorem xSets_cover : (Finset.univ : Finset (Fin 8)).biUnion (β := (cc0_scratch0 : Ref sig .tc).ty.Idx) (fun o => (blkX o).view.set) = Finset.univ := by
  rw [funext blkX_set]
  exact Ring.lead_cover (s := S4096x512) (0 : Fin 2) 512 (fun o : Fin 8 => ![512 * o.val, 0]) S512x512.size inbX (fun _ => rfl)
    (fun b a h => by fin_cases a <;> first | exact absurd rfl h | rfl) rfl (fun a h => by fin_cases a <;> first | exact absurd rfl h | rfl) (by decide)
/-- So are and do the eight slots of the landing buffer of `x`. -/
theorem rxSets_disj (o o' : Fin 8) (h : o ≠ o') : Disjoint (slotX o).view.set (slotX o').view.set := by
  rw [slotX_set, slotX_set]
  exact Ring.lead_disjoint (s := S8x512x512) (0 : Fin 3) 1 (fun o : Fin 8 => ![o.val, 0, 0]) S1x512x512.size inbRX (fun o => (Nat.one_mul _).symm) rfl o o' h
theorem rxSets_cover : (Finset.univ : Finset (Fin 8)).biUnion (β := (cc0_scratch2 : Ref sig .tc).ty.Idx) (fun o => (slotX o).view.set) = Finset.univ := by
  rw [funext slotX_set]
  exact Ring.lead_cover (s := S8x512x512) (0 : Fin 3) 1 (fun o : Fin 8 => ![o.val, 0, 0]) S1x512x512.size inbRX (fun o => (Nat.one_mul _).symm)
    (fun b a h => by fin_cases a <;> first | exact absurd rfl h | rfl) rfl (fun a h => by fin_cases a <;> first | exact absurd rfl h | rfl) (by decide)
/-- So are and do the eight slots of the landing buffer of `w`. -/
theorem rwSets_disj (o o' : Fin 8) (h : o ≠ o') : Disjoint (slotW o).view.set (slotW o').view.set := by
  rw [slotW_set, slotW_set]
  exact Ring.lead_disjoint (s := S8x512x2048) (0 : Fin 3) 1 (fun o : Fin 8 => ![o.val, 0, 0]) S1x512x2048.size inbRW (fun o => (Nat.one_mul _).symm) rfl o o' h
theorem rwSets_cover : (Finset.univ : Finset (Fin 8)).biUnion (β := (cc0_scratch3 : Ref sig .tc).ty.Idx) (fun o => (slotW o).view.set) = Finset.univ := by
  rw [funext slotW_set]
  exact Ring.lead_cover (s := S8x512x2048) (0 : Fin 3) 1 (fun o : Fin 8 => ![o.val, 0, 0]) S1x512x2048.size inbRW (fun o => (Nat.one_mul _).symm)
    (fun b a h => by fin_cases a <;> first | exact absurd rfl h | rfl) rfl (fun a h => by fin_cases a <;> first | exact absurd rfl h | rfl) (by decide)

/-- A scratch buffer of device `c`, whole, at some contents. -/
def some_ (c : Dev nD) (b : Ref sig .tc) : sProp 𝕄 := iprop(∃ f : Buf (Elt F) ((c : Thread nD τ).loc b), ((c : Thread nD τ).loc b) ↦{fullShare} f)

omit [FloatOps F] in
/-- A slot at known contents is a slot at some contents. -/
theorem slotX_any (c : Dev nD) (o : Fin 8) (f) : ((slotX o).view.loc (c : Thread nD τ) ↦[(slotX o).view.set]{fullShare} f : sProp 𝕄) ⊢ freeX c o := by
  unfold freeX; iintro H; iexists f; iexact H
omit [FloatOps F] in
theorem slotW_any (c : Dev nD) (o : Fin 8) (f) : ((slotW o).view.loc (c : Thread nD τ) ↦[(slotW o).view.set]{fullShare} f : sProp 𝕄) ⊢ freeW c o := by
  unfold freeW; iintro H; iexists f; iexact H

omit [FloatOps F] in
/-- A landing buffer at some contents is its eight slots at some contents, both ways. -/
theorem cut_rx (c : Dev nD) : (some_ c cc0_scratch2 : sProp 𝕄) ⊢ bigSep Finset.univ fun o : Fin 8 => freeX c o := by
  unfold some_
  iintro ⟨%f, H⟩
  ihave H' := (Entails.of_eq (Ring.pointsTo_blocks (ℓ := (c : Thread nD τ).loc cc0_scratch2) (fun o : Fin 8 => (slotX o).view.set) rxSets_disj rxSets_cover f)) $$ H
  iapply (show (bigSep Finset.univ fun o : Fin 8 => ((slotX o).view.loc (c : Thread nD τ) ↦[(slotX o).view.set]{fullShare} f) : sProp 𝕄) ⊢ bigSep Finset.univ fun o : Fin 8 => freeX c o from
    bigSep_mono fun o _ => slotX_any c o f)
  iexact H'
omit [FloatOps F] in
theorem cut_rw (c : Dev nD) : (some_ c cc0_scratch3 : sProp 𝕄) ⊢ bigSep Finset.univ fun o : Fin 8 => freeW c o := by
  unfold some_
  iintro ⟨%f, H⟩
  ihave H' := (Entails.of_eq (Ring.pointsTo_blocks (ℓ := (c : Thread nD τ).loc cc0_scratch3) (fun o : Fin 8 => (slotW o).view.set) rwSets_disj rwSets_cover f)) $$ H
  iapply (show (bigSep Finset.univ fun o : Fin 8 => ((slotW o).view.loc (c : Thread nD τ) ↦[(slotW o).view.set]{fullShare} f) : sProp 𝕄) ⊢ bigSep Finset.univ fun o : Fin 8 => freeW c o from
    bigSep_mono fun o _ => slotW_any c o f)
  iexact H'

omit [FloatOps F] in
include m in
theorem join_rx (c : Dev nD) : (bigSep Finset.univ fun o : Fin 8 => freeX c o : sProp 𝕄) ⊢ some_ c cc0_scratch2 :=
  Ring.pointsTo_blocks_join_exists (ℓ := (c : Thread nD τ).loc cc0_scratch2) (fun o : Fin 8 => (slotX o).view.set) rxSets_disj rxSets_cover (m _)
omit [FloatOps F] in
include m in
theorem join_rw (c : Dev nD) : (bigSep Finset.univ fun o : Fin 8 => freeW c o : sProp 𝕄) ⊢ some_ c cc0_scratch3 :=
  Ring.pointsTo_blocks_join_exists (ℓ := (c : Thread nD τ).loc cc0_scratch3) (fun o : Fin 8 => (slotW o).view.set) rwSets_disj rwSets_cover (m _)

/-- The sender's `x` is its eight blocks; -/
theorem cut_x (c : Dev nD) : (((c : Thread nD τ).loc cc0_scratch0) ↦{fullShare} (xs m ρ c : Buf (Elt F) ((c : Thread nD τ).loc cc0_scratch0)) : sProp 𝕄)
    = bigSep Finset.univ fun j : Fin 8 => xPts m ρ c j :=
  Ring.pointsTo_blocks (ℓ := (c : Thread nD τ).loc cc0_scratch0) (fun o : Fin 8 => (blkX o).view.set) xSets_disj xSets_cover _
/-- its `w` is its eight shares. -/
theorem cut_w (c : Dev nD) : (((c : Thread nD τ).loc cc0_scratch1) ↦{fullShare} (ws m ρ c : Buf (Elt F) ((c : Thread nD τ).loc cc0_scratch1)) : sProp 𝕄)
    = bigSep Finset.univ fun k : Fin 8 => wPts m ρ c k := by
  rw [Transfers.pointsTo_deal (Finset.univ : Finset (Fin 8)) Finset.univ_nonempty fullShare]
  unfold wPts
  simp only [View.set_whole]

/-- A slot that holds something is a slot. -/
theorem slotX_free (c : Dev nD) (o : Fin 8) (X : Vec F S512x512 .fp8e5m2) : (owns (c : Thread nD τ) (slotX o) fullShare X : sProp 𝕄) ⊢ freeX c o := by
  unfold owns freeX; iintro ⟨%f, -, H⟩; iexists f; iexact H
/-- A slot of `w` that has been read is free again. -/
theorem slotW_free (c : Dev nD) (o : Fin 8) (X : Vec F S512x2048 .fp8e5m2) : (owns (c : Thread nD τ) (slotW o) fullShare X : sProp 𝕄) ⊢ freeW c o := by
  unfold owns freeW; iintro ⟨%f, -, H⟩; iexists f; iexact H

/-! ## What a device holds for each distance, stage by stage -/

/-- Before the `r`-th signal: its duty and the slots it lends. -/
def toSignal (c : Dev nD) (r : Fin 7) : sProp 𝕄 :=
  iprop(dutyTok ER (barCell (sh c r)) 0 c ∗ freeX c (sh c r) ∗ freeW c (sh c r))
/-- The duties of the `r`-th sends. -/
def sendToks (c : Dev nD) (r : Fin 7) : sProp 𝕄 :=
  iprop((dutyTok ER (cell c 0 r.succ) 0 0 ∗ dutyTok ER (cell (sh c r) 2 c) 0 0) ∗ (dutyTok ER (cell c 1 r.succ) 0 0 ∗ dutyTok ER (cell (sh c r) 3 c) 0 0))
/-- Before the `r`-th sends: the share and the block they read, the slots they write, their duties. -/
def toSend (c : Dev nD) (r : Fin 7) : sProp 𝕄 :=
  iprop((wPts m ρ c r.succ ∗ xPts m ρ c (sh c r)) ∗ (freeX (sh c r) c ∗ freeW (sh c r) c) ∗ sendToks c r)
/-- Before the `r`-th arrivals. -/
def toTake (c : Dev nD) (r : Fin 7) : sProp 𝕄 :=
  iprop((cred (tallyAt (cell c 2 (fr c r)) () (amt 2)) ∗ atPos ER (cell c 2 (fr c r)) 0 ∅ 0)
    ∗ (cred (tallyAt (cell c 3 (fr c r)) () (amt 3)) ∗ atPos ER (cell c 3 (fr c r)) 0 ∅ 0))
/-- After them. -/
def taken (c : Dev nD) (r : Fin 7) : sProp 𝕄 :=
  iprop((semVal (cell c 2 (fr c r)) 0 ∗ semVal (cell c 3 (fr c r)) 0) ∗ (freeX c (fr c r) ∗ freeW c (fr c r)))
/-- Between the `r`-th sends and the wait for them; -/
def sent (c : Dev nD) (r : Fin 7) : sProp 𝕄 :=
  iprop(cred (tallyAt (cell c 0 r.succ) () (amt 0)) ∗ cred (tallyAt (cell c 1 r.succ) () (amt 1)))
/-- What the waits for the `r`-th pair of sends start from: the places on the two semaphores. -/
def toBack (c : Dev nD) (r : Fin 7) : sProp 𝕄 := iprop(atPos ER (cell c 0 r.succ) 0 ∅ 0 ∗ atPos ER (cell c 1 r.succ) 0 ∅ 0)
/-- after that wait. -/
def back (c : Dev nD) (r : Fin 7) : sProp 𝕄 :=
  iprop((semVal (cell c 0 r.succ) 0 ∗ semVal (cell c 1 r.succ) 0) ∗ (wPts m ρ c r.succ ∗ xPts m ρ c (sh c r)))

variable (K : Dev nD × Option (Fin 4 × Fin 8) → ℕ)

/-! ## The groups of steps -/

/-- What each kind of copy semaphore hands over. -/
theorem pay_sendW (c : Dev nD) (r : Fin 7) : pay (F := F) m ρ c (0, r.succ) = wPts m ρ c r.succ := rfl
theorem pay_sendX (c : Dev nD) (r : Fin 7) : pay (F := F) m ρ c (1, r.succ) = xPts m ρ c (sh c r) := by rw [sh_add]; rfl
theorem pay_takeW (c : Dev nD) (o : Fin 8) : pay (F := F) m ρ c (2, o) = owns (c : Thread nD τ) (slotW o) fullShare (ws m ρ o) := rfl
theorem pay_takeX (c : Dev nD) (o : Fin 8) : pay (F := F) m ρ c (3, o) = owns (c : Thread nD τ) (slotX o) fullShare (xblk m ρ o c) := rfl

/-- The pair of sends to the device at distance `r`. -/
theorem steps_send (c n n' : Dev nD) (r : Fin 7) (hn : n.val = sh c r) (hn' : n'.val = sh c r) (ps : List (GSem nD τ sig × ℕ))
    (offW : Fin 3 → ℕ) (hoffW : offW = ![c.val, 0, 0]) (inbW : ∀ a, offW a + S1x512x2048.size a ≤ S8x512x2048.size a)
    (off₁ : Fin 2 → ℕ) (hoff₁ : off₁ = ![512 * (sh c r).val, 0]) (inb₁ : ∀ a, off₁ a + S512x512.size a ≤ S4096x512.size a)
    (off : Fin 3 → ℕ) (hoff : off = ![c.val, 0, 0]) (inb : ∀ a, off a + S1x512x512.size a ≤ S8x512x512.size a)
    (s0 s1 s2 s3 : DmaSem sig) (h0 : s0 = sem 0 r.succ) (h1 : s1 = sem 1 r.succ) (h2 : s2 = sem 2 c) (h3 : s3 = sem 3 c)
    {hscW} {hsrcW : (wM : Memref sig .tc .vmem S512x2048 .fp8e5m2).view.WordExact} {hdstW}
    {hsemW : DmaTarget.Typed .vmem (.dma s2) (.remote (Dev.tc n : Thread nD τ) ((rwM.slice (Rect.unit (s := S8x512x2048) offW S1x512x2048.size inbW) (fun _ => rfl)).squeeze S512x2048 squeezes_S1x512x2048_S512x2048) (.dma s0) hscW)}
    {hsc} {hsrc : (xM.slice (Rect.unit (s := S4096x512) off₁ S512x512.size inb₁) (fun _ => rfl)).view.WordExact} {hdst}
    {hsem : DmaTarget.Typed .vmem (.dma s3) (.remote (Dev.tc n' : Thread nD τ) ((rxM.slice (Rect.unit (s := S8x512x512) off S1x512x512.size inb) (fun _ => rfl)).squeeze S512x512 squeezes_S1x512x512_S512x512) (.dma s1) hsc)}
    {α : Type} {Q : α → sProp 𝕄} {k : Prog (TpuEff nD τ sig (Elt F) Λ₀ .tc) α} :
    iprop(records m ρ K ∗ owing c (sendW1 c r :: sendX1 c r :: ps) ∗ toSend m ρ c r)
      ⊢ iprop(((owing c ps ∗ sent c r) -∗ wp frame (wpE (defs₀ (F := F)) 𝒱₀ (c : Thread nD τ) none) Set.univ k Q)
          -∗ wp frame (wpE (defs₀ (F := F)) 𝒱₀ (c : Thread nD τ) none) Set.univ
            (.op (.enqueueDma wM (.remote (Dev.tc n : Thread nD τ) ((rwM.slice (Rect.unit (s := S8x512x2048) offW S1x512x2048.size inbW) (fun _ => rfl)).squeeze S512x2048 squeezes_S1x512x2048_S512x2048) (.dma s0) hscW) (.dma s2) hsrcW hdstW hsemW) fun _ =>
             .op (.enqueueDma (xM.slice (Rect.unit (s := S4096x512) off₁ S512x512.size inb₁) (fun _ => rfl)) (.remote (Dev.tc n' : Thread nD τ) ((rxM.slice (Rect.unit (s := S8x512x512) off S1x512x512.size inb) (fun _ => rfl)).squeeze S512x512 squeezes_S1x512x512_S512x512) (.dma s1) hsc) (.dma s3) hsrc hdst hsem) fun _ => k) Q) := by
  unfold toSend sendToks sent
  iintro ⟨#HR, HO, ⟨Hw, Hx⟩, ⟨HfX, HfW⟩, ⟨Ht0, Ht2⟩, Ht1, Ht3⟩ Hk
  iapply (step_sendW m ρ K c n r hn (sendX1 c r :: ps) offW hoffW inbW s0 s2 h0 h2) $$ [HO Hw HfW Ht0 Ht2]
  · isplitr; · iexact HR
    isplitl [HO]; · iexact HO
    isplitl [Hw]; · iexact Hw
    isplitl [HfW]; · iexact HfW
    isplitl [Ht0] <;> iassumption
  iintro ⟨HO, Hc0⟩
  iapply (step_sendX m ρ K c n' r hn' ps off₁ hoff₁ inb₁ off hoff inb s1 s3 h1 h3) $$ [HO Hx HfX Ht1 Ht3]
  · isplitr; · iexact HR
    isplitl [HO]; · iexact HO
    isplitl [Hx]; · iexact Hx
    isplitl [HfX]; · iexact HfX
    isplitl [Ht1] <;> iassumption
  iintro ⟨HO, Hc1⟩
  iapply Hk
  isplitl [HO]; · iexact HO
  isplitl [Hc0] <;> iassumption

/-- The two arrivals from the device `r + 1` places before, and the loads of what arrived. -/
theorem steps_take (c : Dev nD) (r : Fin 7) (s2 s3 : DmaSem sig) (h2 : s2 = sem 2 (fr c r)) (h3 : s3 = sem 3 (fr c r))
    {spW spW' spX spX' : Space} {sW sW' sX sX' : Shape} {eW eW' eX eX' : EltTy}
    {srcW : Memref sig .tc spW sW eW} {dstW : Memref sig .tc spW' sW' eW'} {hsW : srcW.view.WordExact} {hdW : dstW.view.WordExact} (hNW : dstW.view.dmaCredit = NW)
    {srcX : Memref sig .tc spX sX eX} {dstX : Memref sig .tc spX' sX' eX'} {hsX : srcX.view.WordExact} {hdX : dstX.view.WordExact} (hNX : dstX.view.dmaCredit = NX)
    (offX : Fin 3 → ℕ) (hoffX : offX = ![(fr c r).val, 0, 0]) (inbX : ∀ a, offX a + S1x512x512.size a ≤ S8x512x512.size a) {hlX}
    (offW : Fin 3 → ℕ) (hoffW : offW = ![(fr c r).val, 0, 0]) (inbW : ∀ a, offW a + S1x512x2048.size a ≤ S8x512x2048.size a) {hlW}
    {α : Type} {Q : α → sProp 𝕄} {k : Vec F S1x512x512 .fp8e5m2 → Vec F S1x512x2048 .fp8e5m2 → Prog (TpuEff nD τ sig (Elt F) Λ₀ .tc) α} :
    iprop(records m ρ K ∗ owing c [] ∗ toTake c r)
      ⊢ iprop(((owing c [] ∗ taken c r) -∗ wp frame (wpE (defs₀ (F := F)) 𝒱₀ (c : Thread nD τ) none) Set.univ (k (upX (xblk m ρ (fr c r) c)) (upW (ws m ρ (fr c r)))) Q)
          -∗ wp frame (wpE (defs₀ (F := F)) 𝒱₀ (c : Thread nD τ) none) Set.univ
            (.op (.waitDma2 s2 srcW dstW hsW hdW) fun _ => .op (.waitDma2 s3 srcX dstX hsX hdX) fun _ =>
             .op (.load rxM (Rect.unit (s := S8x512x512) offX S1x512x512.size inbX).toLoadRect hlX) fun X =>
             .op (.load rwM (Rect.unit (s := S8x512x2048) offW S1x512x2048.size inbW).toLoadRect hlW) fun W => k X W) Q) := by
  unfold toTake taken
  iintro ⟨#HR, HO, ⟨Hc2, Hp2⟩, Hc3, Hp3⟩ Hk
  iapply (step_wait m ρ K c 2 (fr c r) (act_recv c 2 (by decide) r) s2 h2 hNW) $$ [HO Hc2 Hp2]
  · isplitr; · iexact HR
    isplitl [HO]; · iexact HO
    isplitl [Hc2] <;> iassumption
  iintro ⟨HO, Hz2, HW⟩
  iapply (step_wait m ρ K c 3 (fr c r) (act_recv c 3 (by decide) r) s3 h3 hNX) $$ [HO Hc3 Hp3]
  · isplitr; · iexact HR
    isplitl [HO]; · iexact HO
    isplitl [Hc3] <;> iassumption
  iintro ⟨HO, Hz3, HX⟩
  ihave HW := (Entails.of_eq (pay_takeW m ρ c (fr c r))) $$ HW
  ihave HX := (Entails.of_eq (pay_takeX m ρ c (fr c r))) $$ HX
  iapply (step_loadX c (fr c r) (xblk m ρ (fr c r) c) offX hoffX inbX) $$ HX
  iintro HX
  iapply (step_loadW c (fr c r) (ws m ρ (fr c r)) offW hoffW inbW) $$ HW
  iintro HW
  iapply Hk
  isplitl [HO]; · iexact HO
  isplitl [Hz2 Hz3]
  · isplitl [Hz2] <;> iassumption
  isplitl [HX]; · iapply (slotX_free c (fr c r)); iexact HX
  iapply (slotW_free c (fr c r)); iexact HW

/-- The two waits for the device's own sends to the device at distance `r`. -/
theorem steps_back (c : Dev nD) (r : Fin 7) (s0 s1 : DmaSem sig) (h0 : s0 = sem 0 r.succ) (h1 : s1 = sem 1 r.succ)
    {spW spW' spX spX' : Space} {sW sW' sX sX' : Shape} {eW eW' eX eX' : EltTy}
    {srcW : Memref sig .tc spW sW eW} {dstW : Memref sig .tc spW' sW' eW'} {hsW : srcW.view.WordExact} {hdW : dstW.view.WordExact} (hNW : dstW.view.dmaCredit = NW)
    {srcX : Memref sig .tc spX sX eX} {dstX : Memref sig .tc spX' sX' eX'} {hsX : srcX.view.WordExact} {hdX : dstX.view.WordExact} (hNX : dstX.view.dmaCredit = NX)
    {α : Type} {Q : α → sProp 𝕄} {k : Prog (TpuEff nD τ sig (Elt F) Λ₀ .tc) α} :
    iprop(records m ρ K ∗ owing c [] ∗ sent c r ∗ toBack c r)
      ⊢ iprop(((owing c [] ∗ back m ρ c r) -∗ wp frame (wpE (defs₀ (F := F)) 𝒱₀ (c : Thread nD τ) none) Set.univ k Q)
          -∗ wp frame (wpE (defs₀ (F := F)) 𝒱₀ (c : Thread nD τ) none) Set.univ
            (.op (.waitDma2 s0 srcW dstW hsW hdW) fun _ => .op (.waitDma2 s1 srcX dstX hsX hdX) fun _ => k) Q) := by
  unfold toBack back sent
  iintro ⟨#HR, HO, ⟨Hc0, Hc1⟩, Hp0, Hp1⟩ Hk
  iapply (step_wait m ρ K c 0 r.succ (act_send c 0 (by decide) r) s0 h0 hNW) $$ [HO Hc0 Hp0]
  · isplitr; · iexact HR
    isplitl [HO]; · iexact HO
    isplitl [Hc0] <;> iassumption
  iintro ⟨HO, Hz0, HW⟩
  iapply (step_wait m ρ K c 1 r.succ (act_send c 1 (by decide) r) s1 h1 hNX) $$ [HO Hc1 Hp1]
  · isplitr; · iexact HR
    isplitl [HO]; · iexact HO
    isplitl [Hc1] <;> iassumption
  iintro ⟨HO, Hz1, HX⟩
  ihave HW := (Entails.of_eq (pay_sendW m ρ c r)) $$ HW
  ihave HX := (Entails.of_eq (pay_sendX m ρ c r)) $$ HX
  iapply Hk
  isplitl [HO]; · iexact HO
  isplitl [Hz0 Hz1]
  · isplitl [Hz0] <;> iassumption
  isplitl [HW]; · iexact HW
  iexact HX

/-! ## The same, in the kernel's own words

The offsets and semaphores as the kernel computes them from the device number, `n` being the distance as it writes it. -/

/-- The semaphore of a send at offset `k` of its array. -/
theorem row_sem0 (k : Fin 8) (off : Fin 1 → ℕ) (inb) (h : off = ![k.val]) :
    ((cc0_scratch4.slice (Rect.unit (s := S8) off S1.size inb)).squeeze S_ squeezes_S1_S_).sem = sem 0 k := by
  subst h; revert k; decide
theorem row_sem1 (k : Fin 8) (off : Fin 1 → ℕ) (inb) (h : off = ![k.val]) :
    ((cc0_scratch5.slice (Rect.unit (s := S8) off S1.size inb)).squeeze S_ squeezes_S1_S_).sem = sem 1 k := by
  subst h; revert k; decide

/-- The signal of the device at distance `r`. -/
theorem kernel_signal (c n : Dev nD) (r : Fin 7) (hn : n.val = sh c r) (ps : List (GSem nD τ sig × ℕ)) {α : Type} {Q : α → sProp 𝕄} {k : PUnit → Prog (TpuEff nD τ sig (Elt F) Λ₀ .tc) α} :
    iprop(records m ρ K ∗ owing c (sig1 c r :: ps) ∗ toSignal c r)
      ⊢ iprop((owing c ps -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) barS (1#32).toInt) k) Q) := by
  unfold toSignal; exact step_signal m ρ K c n r hn ps

/-- The sends to the device at distance `r`. -/
theorem kernel_send (c : Dev nD) (r : Fin 7) (n : BitVec 32) (hn : n = BitVec.ofNat 32 (1 + r.val)) (dW dX : Dev nD) (hdW : dW.val = sh c r) (hdX : dX.val = sh c r)
    (ps : List (GSem nD τ sig × ℕ)) (oS : Fin 1 → ℕ) (hoS : oS = ![r.succ.val]) {iS iS' i1 i1' i2 i3 i4}
    {hscW} {hsrcW : (wM : Memref sig .tc .vmem S512x2048 .fp8e5m2).view.WordExact} {hdstW}
    {hsemW : DmaTarget.Typed .vmem (.dma ((cc0_scratch6.slice (Rect.unit (s := S8) (k0_off1 c) S1.size i1)).squeeze S_ squeezes_S1_S_).sem)
      (.remote (Dev.tc dW : Thread nD τ) ((rwM.slice (Rect.unit (s := S8x512x2048) (k0_off2 c) S1x512x2048.size i2) (fun _ => rfl)).squeeze S512x2048 squeezes_S1x512x2048_S512x2048)
        (.dma ((cc0_scratch4.slice (Rect.unit (s := S8) oS S1.size iS)).squeeze S_ squeezes_S1_S_).sem) hscW)}
    {hsc} {hsrc : (xM.slice (Rect.unit (s := S4096x512) (k0_off4 c n) S512x512.size i4) (fun _ => rfl)).view.WordExact} {hdst}
    {hsem : DmaTarget.Typed .vmem (.dma ((cc0_scratch7.slice (Rect.unit (s := S8) (k0_off1 c) S1.size i1')).squeeze S_ squeezes_S1_S_).sem)
      (.remote (Dev.tc dX : Thread nD τ) ((rxM.slice (Rect.unit (s := S8x512x512) (k0_off3 c) S1x512x512.size i3) (fun _ => rfl)).squeeze S512x512 squeezes_S1x512x512_S512x512)
        (.dma ((cc0_scratch5.slice (Rect.unit (s := S8) oS S1.size iS')).squeeze S_ squeezes_S1_S_).sem) hsc)}
    {α : Type} {Q : α → sProp 𝕄} {k : Prog (TpuEff nD τ sig (Elt F) Λ₀ .tc) α} :
    iprop(records m ρ K ∗ owing c (sendW1 c r :: sendX1 c r :: ps) ∗ toSend m ρ c r)
      ⊢ iprop(((owing c ps ∗ sent c r) -∗ wp frame (wpE (defs₀ (F := F)) 𝒱₀ (c : Thread nD τ) none) Set.univ k Q)
          -∗ wp frame (wpE (defs₀ (F := F)) 𝒱₀ (c : Thread nD τ) none) Set.univ
            (.op (.enqueueDma wM (.remote (Dev.tc dW : Thread nD τ) ((rwM.slice (Rect.unit (s := S8x512x2048) (k0_off2 c) S1x512x2048.size i2) (fun _ => rfl)).squeeze S512x2048 squeezes_S1x512x2048_S512x2048)
                (.dma ((cc0_scratch4.slice (Rect.unit (s := S8) oS S1.size iS)).squeeze S_ squeezes_S1_S_).sem) hscW)
                (.dma ((cc0_scratch6.slice (Rect.unit (s := S8) (k0_off1 c) S1.size i1)).squeeze S_ squeezes_S1_S_).sem) hsrcW hdstW hsemW) fun _ =>
             .op (.enqueueDma (xM.slice (Rect.unit (s := S4096x512) (k0_off4 c n) S512x512.size i4) (fun _ => rfl))
                (.remote (Dev.tc dX : Thread nD τ) ((rxM.slice (Rect.unit (s := S8x512x512) (k0_off3 c) S1x512x512.size i3) (fun _ => rfl)).squeeze S512x512 squeezes_S1x512x512_S512x512)
                (.dma ((cc0_scratch5.slice (Rect.unit (s := S8) oS S1.size iS')).squeeze S_ squeezes_S1_S_).sem) hsc)
                (.dma ((cc0_scratch7.slice (Rect.unit (s := S8) (k0_off1 c) S1.size i1')).squeeze S_ squeezes_S1_S_).sem) hsrc hdst hsem) fun _ => k) Q) := by
  subst hn
  exact steps_send m ρ K c dW dX r hdW hdX ps _ (k0_off2_eq c) i2 _ (off4_eq c r) i4 _ (k0_off3_eq c) i3 _ _ _ _
    (row_sem0 r.succ oS iS hoS) (row_sem1 r.succ oS iS' hoS) (off1_sem2 _ i1 c (k0_off1_eq c)) (off1_sem3 _ i1' c (k0_off1_eq c))

/-- The arrivals from the device `r + 1` places before. -/
theorem kernel_take (c : Dev nD) (r : Fin 7) (n : BitVec 32) (hn : n = BitVec.ofNat 32 (1 + r.val)) {i6 i6' i7 i8 i9 i10}
    {spW spX : Space} {sW sX : Shape} {eW eX : EltTy} {srcW : Memref sig .tc spW sW eW} {srcX : Memref sig .tc spX sX eX} {hsW : srcW.view.WordExact} {hsX : srcX.view.WordExact} {hdW} {hdX} {hlX} {hlW}
    {α : Type} {Q : α → sProp 𝕄} {k : Vec F S1x512x512 .fp8e5m2 → Vec F S1x512x2048 .fp8e5m2 → Prog (TpuEff nD τ sig (Elt F) Λ₀ .tc) α} :
    iprop(records m ρ K ∗ owing c [] ∗ toTake c r)
      ⊢ iprop(((owing c [] ∗ taken c r) -∗ wp frame (wpE (defs₀ (F := F)) 𝒱₀ (c : Thread nD τ) none) Set.univ (k (upX (xblk m ρ (fr c r) c)) (upW (ws m ρ (fr c r)))) Q)
          -∗ wp frame (wpE (defs₀ (F := F)) 𝒱₀ (c : Thread nD τ) none) Set.univ
            (.op (.waitDma2 ((cc0_scratch6.slice (Rect.unit (s := S8) (k0_off6 c n) S1.size i6)).squeeze S_ squeezes_S1_S_).sem srcW
                ((rwM.slice (Rect.unit (s := S8x512x2048) (k0_off7 c n) S1x512x2048.size i7) (fun _ => rfl)).squeeze S512x2048 squeezes_S1x512x2048_S512x2048) hsW hdW) fun _ =>
             .op (.waitDma2 ((cc0_scratch7.slice (Rect.unit (s := S8) (k0_off6 c n) S1.size i6')).squeeze S_ squeezes_S1_S_).sem srcX
                ((rxM.slice (Rect.unit (s := S8x512x512) (k0_off8 c n) S1x512x512.size i8) (fun _ => rfl)).squeeze S512x512 squeezes_S1x512x512_S512x512) hsX hdX) fun _ =>
             .op (.load rxM (Rect.unit (s := S8x512x512) (k0_off9 c n) S1x512x512.size i9).toLoadRect hlX) fun X =>
             .op (.load rwM (Rect.unit (s := S8x512x2048) (k0_off10 c n) S1x512x2048.size i10).toLoadRect hlW) fun W => k X W) Q) := by
  subst hn
  exact steps_take m ρ K c r _ _ (off1_sem2 _ i6 (fr c r) (off6_eq c r)) (off1_sem3 _ i6' (fr c r) (off6_eq c r))
    (dstW := (rwM.slice (Rect.unit (s := S8x512x2048) (k0_off7 c _) S1x512x2048.size i7) (fun _ => rfl)).squeeze S512x2048 squeezes_S1x512x2048_S512x2048) rfl
    (dstX := (rxM.slice (Rect.unit (s := S8x512x512) (k0_off8 c _) S1x512x512.size i8) (fun _ => rfl)).squeeze S512x512 squeezes_S1x512x512_S512x512) rfl
    _ (off9_eq c r) i9 _ (off10_eq c r) i10

/-- The waits for the sends to the device at distance `r`. -/
theorem kernel_back (c : Dev nD) (r : Fin 7) (oS : Fin 1 → ℕ) (hoS : oS = ![r.succ.val]) {iS iS' off i4}
    {spW spX : Space} {sW sX : Shape} {eW eX : EltTy} {srcW : Memref sig .tc spW sW eW} {srcX : Memref sig .tc spX sX eX} {hsW : srcW.view.WordExact} {hsX : srcX.view.WordExact} {hdW} {hdX}
    {α : Type} {Q : α → sProp 𝕄} {k : Prog (TpuEff nD τ sig (Elt F) Λ₀ .tc) α} :
    iprop(records m ρ K ∗ owing c [] ∗ sent c r ∗ toBack c r)
      ⊢ iprop(((owing c [] ∗ back m ρ c r) -∗ wp frame (wpE (defs₀ (F := F)) 𝒱₀ (c : Thread nD τ) none) Set.univ k Q)
          -∗ wp frame (wpE (defs₀ (F := F)) 𝒱₀ (c : Thread nD τ) none) Set.univ
            (.op (.waitDma2 ((cc0_scratch4.slice (Rect.unit (s := S8) oS S1.size iS)).squeeze S_ squeezes_S1_S_).sem srcW wM hsW hdW) fun _ =>
             .op (.waitDma2 ((cc0_scratch5.slice (Rect.unit (s := S8) oS S1.size iS')).squeeze S_ squeezes_S1_S_).sem srcX
                (xM.slice (Rect.unit (s := S4096x512) off S512x512.size i4) (fun _ => rfl)) hsX hdX) fun _ => k) Q) :=
  steps_back m ρ K c r _ _ (row_sem0 r.succ oS iS hoS) (row_sem1 r.succ oS iS' hoS) (dstW := wM) rfl
    (dstX := xM.slice (Rect.unit (s := S4096x512) off S512x512.size i4) (fun _ => rfl)) rfl

end Cert.Exchange

end
-- ==== Proof.Body.lean ====
/-
# The kernel on one device

What a device starts from, what it ends with, the value it writes, and its run.
-/
module

public import proofs.«01_k».proof.Proof.Pieces
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (Fin 4 × Fin 8) → ℕ)

/-! ## The value -/

/-- What arrives at device `c` from the device `r + 1` places before it, as the kernel loads it. -/
def gotX (c : Dev nD) (r : Fin 7) : Vec F S1x512x512 .fp8e5m2 := upX (xblk m ρ (fr c r) c)
/-- The slab of `w` that arrived from the device `r + 1` places before, as the load reads it. -/
def gotW (c : Dev nD) (r : Fin 7) : Vec F S1x512x2048 .fp8e5m2 := upW (ws m ρ (fr c r))

/-- The rectangle of the one scale, and the scales as loaded. -/
abbrev rS : Rect S1 := Rect.unit (s := S1) ![0] S1.size inb_S1_S1_0
/-- A scale, read from its scalar buffer. -/
def scale (M : Memref sig .tc .smem S1 .f32) (f : M.view.ty.Contents (Elt F)) : F .f32 :=
  (M.access rS).read (Elt F) f (Shape.Idx.first (numel1_S1.symm ▸ Nat.one_pos))

/-- The partial sum after the device's own block, -/
def acc0 (c : Dev nD) : FVec F S512x2048 .f32 := k0_pay3 (xblk m ρ c c) (ws m ρ c)
/-- after each of the first six arrivals, one product more each, -/
def acc1 (c : Dev nD) : FVec F S512x2048 .f32 := k0_pay4 (acc0 m ρ c) (gotX m ρ c 0) (gotW m ρ c 0)
def acc2 (c : Dev nD) : FVec F S512x2048 .f32 := k0_pay5 (acc1 m ρ c) (gotX m ρ c 1) (gotW m ρ c 1)
def acc3 (c : Dev nD) : FVec F S512x2048 .f32 := k0_pay6 (acc2 m ρ c) (gotX m ρ c 2) (gotW m ρ c 2)
def acc4 (c : Dev nD) : FVec F S512x2048 .f32 := k0_pay7 (acc3 m ρ c) (gotX m ρ c 3) (gotW m ρ c 3)
def acc5 (c : Dev nD) : FVec F S512x2048 .f32 := k0_pay8 (acc4 m ρ c) (gotX m ρ c 4) (gotW m ρ c 4)
def acc6 (c : Dev nD) : FVec F S512x2048 .f32 := k0_pay9 (acc5 m ρ c) (gotX m ρ c 5) (gotW m ρ c 5)
/-- and the result. -/
def outAt (c : Dev nD) : FVec F S512x2048 .f32 :=
  k0_pay10 (acc6 m ρ c) (gotX m ρ c 6) (gotW m ρ c 6) (scale sxM (sxin m ρ c)) (scale swM (swin m ρ c))

/-! ## The state before and after -/

/-- The four semaphores of a device that nothing uses. -/
def idle (c : Dev nD) (Φ : GSem nD τ sig → sProp 𝕄) : sProp 𝕄 :=
  iprop(Φ (cell c 0 0) ∗ Φ (cell c 1 0) ∗ Φ (cell c 2 c) ∗ Φ (cell c 3 c))

/-- What device `c` is given at launch: the records, its positions, the duties it pays and the credits it may wait on. -/
def held (c : Dev nD) : sProp 𝕄 :=
  iprop(records m ρ K ∗ (cred (tallyAt (barCell c) () 7) ∗ atPos ER (barCell c) 0 ∅ 0)
    ∗ (bigSep Finset.univ fun r => dutyTok ER (barCell (sh c r)) 0 c) ∗ (bigSep Finset.univ fun r => sendToks c r)
    ∗ (bigSep Finset.univ fun r => toTake c r) ∗ (bigSep Finset.univ fun r => toBack c r)
    ∗ idle c (fun g => atPos ER g 0 ∅ 0) ∗ levAts L lv)

/-- What a device starts with besides its scratch buffers: its places, its duties and its credits. -/
def start (c : Dev nD) : sProp 𝕄 := iprop(∃ K, held m ρ K c)

/-- The four scratch buffers at some contents. -/
def scratch (c : Dev nD) : sProp 𝕄 := iprop(some_ c cc0_scratch0 ∗ some_ c cc0_scratch1 ∗ some_ c cc0_scratch2 ∗ some_ c cc0_scratch3)

/-- What a device holds before its body: the above and the scratch buffers at any contents. -/
def Φ₀ (c : Dev nD) : sProp 𝕄 := iprop(start m ρ c ∗ scratch c)
/-- At the end: the scratch buffers, and every counter at zero. -/
def Φ₁ (c : Dev nD) : sProp 𝕄 :=
  iprop(scratch c ∗ (bigSep Finset.univ fun ak : Fin 4 × Fin 8 => semVal (cell c ak.1 ak.2) 0) ∗ semVal (barCell c) 0)

/-- The proof data of the one pallas_call: the operands stay, the result is `outAt`, the rest is handed through. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => win m ρ c
    | ⟨2, _⟩ => sxin m ρ c
    | ⟨3, _⟩ => swin m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The whole of a buffer of `x`'s shape, and of `w`'s. -/
abbrev rX : Rect S4096x512 := Rect.unit (s := S4096x512) ![0, 0] S4096x512.size inb_S4096x512_S4096x512_0_0
abbrev rW : Rect S512x2048 := Rect.unit (s := S512x2048) ![0, 0] S512x2048.size inb_S512x2048_S512x2048_0_0

/-- The loads and stores of whole buffers. -/
theorem read_xi (f : (cc0_stg0_0 : Ref sig .tc).ty.Contents (Elt F)) {inb} :
    (xiM : Memref sig .tc .vmem S4096x512 .fp8e5m2).view.readAt (Elt F) (Rect.unit (s := S4096x512) ![0, 0] S4096x512.size inb).toLoadRect f = f :=
  Memref.readAt_unit_zero (Elt F) cc0_stg0_0 off_zero _ f
/-- The load of the whole staged `w` reads its contents. -/
theorem read_wi (f : (cc0_stg1_0 : Ref sig .tc).ty.Contents (Elt F)) {inb} :
    (wiM : Memref sig .tc .vmem S512x2048 .fp8e5m2).view.readAt (Elt F) (Rect.unit (s := S512x2048) ![0, 0] S512x2048.size inb).toLoadRect f = f :=
  Memref.readAt_unit_zero (Elt F) cc0_stg1_0 off_zero _ f
/-- A store of a whole buffer leaves what was stored: the sender's `x`, the sender's `w` and the result. -/
theorem write_x (f w : (cc0_scratch0 : Ref sig .tc).ty.Contents (Elt F)) {inb} :
    ((xM : Memref sig .tc .vmem S4096x512 .fp8e5m2).access (Rect.unit (s := S4096x512) ![0, 0] S4096x512.size inb) : View sig .tc _ _ _).write (Elt F) f w Finset.univ = w :=
  Memref.write_access_unit_zero_univ (Elt F) cc0_scratch0 off_zero _ f w
theorem write_w (f w : (cc0_scratch1 : Ref sig .tc).ty.Contents (Elt F)) {inb} :
    ((wM : Memref sig .tc .vmem S512x2048 .fp8e5m2).access (Rect.unit (s := S512x2048) ![0, 0] S512x2048.size inb) : View sig .tc _ _ _).write (Elt F) f w Finset.univ = w :=
  Memref.write_access_unit_zero_univ (Elt F) cc0_scratch1 off_zero _ f w
theorem write_o (f w : (cc0_stg4_0 : Ref sig .tc).ty.Contents (Elt F)) {inb} :
    ((oM : Memref sig .tc .vmem S512x2048 .f32).access (Rect.unit (s := S512x2048) ![0, 0] S512x2048.size inb) : View sig .tc _ _ _).write (Elt F) f w Finset.univ = w :=
  Memref.write_access_unit_zero_univ (Elt F) cc0_stg4_0 off_zero _ f w

/-- The sending buffers, filled, are dealt among the other devices; so are the landing slots. -/
theorem deal_x (c : Dev nD) : (((xM : Memref sig .tc .vmem S4096x512 .fp8e5m2).access rX).loc (c : Thread nD τ) ↦{fullShare} k0_pay1 (xin m ρ c) : sProp 𝕄)
    ⊢ (iprop(xPts m ρ c c ∗ bigSep Finset.univ fun r => xPts m ρ c (sh c r)) : sProp 𝕄) :=
  Entails.of_eq ((cut_x m ρ c).trans (bigSep_sh c _))
/-- The sender's `w` is dealt out as eight shares. -/
theorem deal_w (c : Dev nD) : (((wM : Memref sig .tc .vmem S512x2048 .fp8e5m2).access rW).loc (c : Thread nD τ) ↦{fullShare} k0_pay2 (win m ρ c) : sProp 𝕄)
    ⊢ (iprop(wPts m ρ c 0 ∗ bigSep Finset.univ fun r : Fin 7 => wPts m ρ c r.succ) : sProp 𝕄) :=
  Entails.of_eq ((cut_w m ρ c).trans (bigSep_succ _))
/-- The landing buffers are cut into their eight slots. -/
theorem deal_rx (c : Dev nD) : (iprop(∃ f : Buf (Elt F) ((c : Thread nD τ).loc cc0_scratch2), ((c : Thread nD τ).loc cc0_scratch2) ↦{fullShare} f) : sProp 𝕄)
    ⊢ iprop(freeX c c ∗ bigSep Finset.univ fun r => freeX c (sh c r)) := (cut_rx c).trans (Entails.of_eq (bigSep_sh c _))
theorem deal_rw (c : Dev nD) : (iprop(∃ f : Buf (Elt F) ((c : Thread nD τ).loc cc0_scratch3), ((c : Thread nD τ).loc cc0_scratch3) ↦{fullShare} f) : sProp 𝕄)
    ⊢ iprop(freeW c c ∗ bigSep Finset.univ fun r => freeW c (sh c r)) := (cut_rw c).trans (Entails.of_eq (bigSep_sh c _))

/-- The signals' duties and slots, one by one. -/
theorem seven_signals (c : Dev nD) :
    iprop((bigSep Finset.univ fun r => dutyTok ER (barCell (sh c r)) 0 c) ∗ (bigSep Finset.univ fun r => freeX c (sh c r)) ∗ (bigSep Finset.univ fun r => freeW c (sh c r)))
      ⊢ (iprop(toSignal c 0 ∗ toSignal c 1 ∗ toSignal c 2 ∗ toSignal c 3 ∗ toSignal c 4 ∗ toSignal c 5 ∗ toSignal c 6) : sProp 𝕄) := by
  rw [← bigSep_seven (fun r => toSignal c r), ← bigSep_sep', ← bigSep_sep']
  exact Entails.refl _
/-- What one send needs: the two duties' tokens, the place for what it will give back, and the slots it was lent. -/
theorem toSend_intro (c : Dev nD) (r : Fin 7) :
    iprop(wPts m ρ c r.succ ∗ xPts m ρ c (sh c r) ∗ (freeX (sh c r) c ∗ freeW (sh c r) c) ∗ sendToks c r) ⊢ toSend m ρ c r := by
  unfold toSend
  iintro ⟨H1, H2, H3, H4⟩
  isplitl [H1 H2]
  · isplitl [H1] <;> iassumption
  isplitl [H3] <;> iassumption
/-- The same for the seven sends at once. -/
theorem seven_sends (c : Dev nD) :
    iprop((bigSep Finset.univ fun r : Fin 7 => wPts m ρ c r.succ) ∗ (bigSep Finset.univ fun r => xPts m ρ c (sh c r))
        ∗ (bigSep Finset.univ fun r => iprop(freeX (sh c r) c ∗ freeW (sh c r) c)) ∗ bigSep Finset.univ fun r => sendToks c r)
      ⊢ (iprop(toSend m ρ c 0 ∗ toSend m ρ c 1 ∗ toSend m ρ c 2 ∗ toSend m ρ c 3 ∗ toSend m ρ c 4 ∗ toSend m ρ c 5 ∗ toSend m ρ c 6) : sProp 𝕄) := by
  rw [← bigSep_seven (fun r => toSend m ρ c r), ← bigSep_sep', ← bigSep_sep', ← bigSep_sep']
  exact bigSep_mono fun r _ => toSend_intro m ρ c r

/-- The idle semaphores close. -/
theorem idle_close (c : Dev nD) :
    iprop(records m ρ K ∗ idle c (fun g => atPos ER g 0 ∅ 0)) ⊢ |={Set.univ}=> (idle c (fun g => semVal g 0) : sProp 𝕄) := by
  unfold idle
  iintro ⟨#HR, H0, H1, H2, H3⟩
  imod (close_idle m ρ K c 0 0 (idle_send c 0 (by decide))) $$ [H0] with H0
  · isplitr; · iexact HR
    iexact H0
  imod (close_idle m ρ K c 1 0 (idle_send c 1 (by decide))) $$ [H1] with H1
  · isplitr; · iexact HR
    iexact H1
  imod (close_idle m ρ K c 2 c (idle_recv c 2 (by decide))) $$ [H2] with H2
  · isplitr; · iexact HR
    iexact H2
  imod (close_idle m ρ K c 3 c (idle_recv c 3 (by decide))) $$ [H3] with H3
  · isplitr; · iexact HR
    iexact H3
  imodintro
  isplitl [H0]; · iexact H0
  isplitl [H1]; · iexact H1
  isplitl [H2] <;> iassumption

/-- The thirty-two semaphores by rows, each row's idle one first. -/
theorem all_cells (Φ : GSem nD τ sig → sProp 𝕄) (c : Dev nD) :
    (bigSep Finset.univ fun ak : Fin 4 × Fin 8 => Φ (cell c ak.1 ak.2))
      = iprop((Φ (cell c 0 0) ∗ bigSep Finset.univ fun r : Fin 7 => Φ (cell c 0 r.succ)) ∗ (Φ (cell c 1 0) ∗ bigSep Finset.univ fun r : Fin 7 => Φ (cell c 1 r.succ))
        ∗ (Φ (cell c 2 c) ∗ bigSep Finset.univ fun r : Fin 7 => Φ (cell c 2 (fr c r))) ∗ (Φ (cell c 3 c) ∗ bigSep Finset.univ fun r : Fin 7 => Φ (cell c 3 (fr c r)))) := by
  rw [bigSep_univ_prod, bigSep_univ_eq_bigSepL ([0, 1, 2, 3] : List (Fin 4)) (by decide) (by decide),
    ← bigSep_succ fun k => Φ (cell c 0 k), ← bigSep_succ fun k => Φ (cell c 1 k), ← bigSep_fr c fun k => Φ (cell c 2 k), ← bigSep_fr c fun k => Φ (cell c 3 k)]
  rfl

/-- Everything put together again at the end: the scratch buffers and the counters. -/
theorem gather (c : Dev nD) :
    iprop((bigSep Finset.univ fun r => taken c r) ∗ (bigSep Finset.univ fun r => back m ρ c r) ∗ idle c (fun g => semVal g 0)
        ∗ (wPts m ρ c 0 ∗ xPts m ρ c c) ∗ (freeX c c ∗ freeW c c))
      ⊢ (iprop(scratch c ∗ bigSep Finset.univ fun ak : Fin 4 × Fin 8 => semVal (cell c ak.1 ak.2) 0) : sProp 𝕄) := by
  unfold taken back idle
  rw [bigSep_sep', bigSep_sep', bigSep_sep', bigSep_sep', bigSep_sep', bigSep_sep', all_cells (fun g => (semVal g 0 : sProp 𝕄)) c]
  iintro ⟨⟨⟨Hz2, Hz3⟩, HX, HW⟩, ⟨⟨Hz0, Hz1⟩, Hw, Hx⟩, ⟨Hi0, Hi1, Hi2, Hi3⟩, ⟨Hw0, Hx0⟩, HX0, HW0⟩
  isplitr [Hz0 Hz1 Hz2 Hz3 Hi0 Hi1 Hi2 Hi3]
  · unfold scratch
    isplitl [Hx Hx0]
    · unfold some_
      iexists (xs m ρ c)
      iapply (Entails.of_eq ((cut_x m ρ c).trans (bigSep_sh c _)).symm)
      isplitl [Hx0] <;> iassumption
    isplitl [Hw Hw0]
    · unfold some_
      iexists (ws m ρ c)
      iapply (Entails.of_eq ((cut_w m ρ c).trans (bigSep_succ _)).symm)
      isplitl [Hw0] <;> iassumption
    isplitl [HX HX0]
    · iapply (join_rx m c)
      iapply (Entails.of_eq (bigSep_fr c (fun o => freeX c o)).symm)
      isplitl [HX0] <;> iassumption
    · iapply (join_rw m c)
      iapply (Entails.of_eq (bigSep_fr c (fun o => freeW c o)).symm)
      isplitl [HW0] <;> iassumption
  isplitl [Hz0 Hi0]
  · isplitl [Hi0] <;> iassumption
  isplitl [Hz1 Hi1]
  · isplitl [Hi1] <;> iassumption
  isplitl [Hz2 Hi2]
  · isplitl [Hi2] <;> iassumption
  isplitl [Hi3] <;> iassumption

/-- What the body runs from: the staged operands, the result's buffer and the device's protocol. -/
def bodyPre (c : Dev nD) : sProp 𝕄 :=
  iprop((held m ρ K c ∗ scratch c)
    ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

/-- What the body ends with: the operands as they were, the result, the scratch buffers whole and every counter at zero. -/
def bodyPost (c : Dev nD) : sProp 𝕄 :=
  iprop(Φ₁ c ∗ (dats m ρ 0 c).owesAt () t0_0.succ ∗ stg c cc0_stg0_0 (xin m ρ c) ∗ stg c cc0_stg1_0 (win m ρ c)
    ∗ stg c cc0_stg2_0 (sxin m ρ c) ∗ stg c cc0_stg3_0 (swin m ρ c) ∗ stg c cc0_stg4_0 (outAt m ρ c))

set_option maxHeartbeats 4000000 in
/-- The body's run: from `bodyPre`, with no fault, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body xiM (Memref.isWhole_whole _) wiM (Memref.isWhole_whole _) sxM (Memref.isWhole_whole _) swM (Memref.isWhole_whole _) oM (Memref.isWhole_whole _)
            xM (Memref.isWhole_whole _) wM (Memref.isWhole_whole _) rxM (Memref.isWhole_whole _) rwM (Memref.isWhole_whole _) cc0_scratch4 cc0_scratch5 cc0_scratch6 cc0_scratch7) Kt := by
  simp only [cc0_body_eq_skeleton]; unfold cc0_body_skel
  simp only [k0_part19_eq_skeleton]; unfold k0_part19_skel
  simp only [k0_part1_eq_skeleton, k0_part2_eq_skeleton, k0_part3_eq_skeleton, k0_part4_eq_skeleton, k0_part5_eq_skeleton, k0_part6_eq_skeleton, k0_part7_eq_skeleton, k0_part8_eq_skeleton,
    k0_part9_eq_skeleton, k0_part10_eq_skeleton, k0_part11_eq_skeleton, k0_part12_eq_skeleton, k0_part13_eq_skeleton, k0_part14_eq_skeleton, k0_part15_eq_skeleton, k0_part16_eq_skeleton,
    k0_part17_eq_skeleton, k0_part18_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel
  simp only [semSignalWord, semWaitWord, smemLoad, smemLoadElt, Prog.lift, Prog.bind_op, Prog.bind_ret, Prog.pure_eq_ret, wp_deviceId]
  unfold bodyPre
  iintro ⟨⟨⟨Hh, Hs⟩, Ho, ⟨%d0, %g0, %hg0, Hxi⟩, ⟨%d1, %g1, %hg1, Hwi⟩, ⟨%d2, %g2, %hg2, Hsx⟩, ⟨%d3, %g3, %hg3, Hsw⟩, ⟨%d4, %g4, %hg4, Hout⟩⟩, Hk⟩
  obtain rfl : g0 = xin m ρ c := by rw [hg0]; unfold Dat.before; rw [if_pos (fetch0_0 t0_0)]; rfl
  obtain rfl : g1 = win m ρ c := by rw [hg1]; unfold Dat.before; rw [if_pos (fetch0_1 t0_0)]; rfl
  obtain rfl : g2 = sxin m ρ c := by rw [hg2]; unfold Dat.before; rw [if_pos (fetch0_2 t0_0)]; rfl
  obtain rfl : g3 = swin m ρ c := by rw [hg3]; unfold Dat.before; rw [if_pos (fetch0_3 t0_0)]; rfl
  unfold held scratch Dat.owesAt Pipeline.owesWithin
  icases Hs with ⟨H0, H1, H2, H3⟩
  unfold some_
  icases H0 with ⟨%f0, H0⟩
  icases H1 with ⟨%f1, H1⟩
  icases Ho with ⟨%W, %hW, HO⟩
  icases Hh with ⟨#HR, ⟨HcB, HpB⟩, HtB, HtS, Htk, Hbk, Hid, #Hlev⟩
  -- the operands are copied to the buffers they are sent from
  iapply (wp_load 𝒱₀ (c : Thread nD τ) none Set.univ (m := xiM) (Finset.subset_univ _)) $$ Hxi; iintro Hxi
  rw [read_xi]
  iapply (wp_load 𝒱₀ (c : Thread nD τ) none Set.univ (m := xM) (Finset.subset_univ _)) $$ H0; iintro H0
  iapply (wp_store 𝒱₀ (c : Thread nD τ) none Set.univ (m := xM) (r := rX) (Mk := Finset.univ) (Finset.subset_univ _)) $$ H0; iintro H0
  rw [write_x]
  iapply (wp_load 𝒱₀ (c : Thread nD τ) none Set.univ (m := wiM) (Finset.subset_univ _)) $$ Hwi; iintro Hwi
  rw [read_wi]
  iapply (wp_load 𝒱₀ (c : Thread nD τ) none Set.univ (m := wM) (Finset.subset_univ _)) $$ H1; iintro H1
  iapply (wp_store 𝒱₀ (c : Thread nD τ) none Set.univ (m := wM) (r := rW) (Mk := Finset.univ) (Finset.subset_univ _)) $$ H1; iintro H1
  rw [write_w]
  -- the buffers are cut up
  ihave H0 := (deal_x m ρ c) $$ H0
  ihave H1 := (deal_w m ρ c) $$ H1
  icases H0 with ⟨Hx0, Hxs⟩
  icases H1 with ⟨Hw0, Hws⟩
  ihave H2 := (deal_rx (F := F) c) $$ H2
  ihave H3 := (deal_rw (F := F) c) $$ H3
  icases H2 with ⟨Hrx0, Hrx⟩
  icases H3 with ⟨Hrw0, Hrw⟩
  -- the signals
  ihave Hsg := (seven_signals (F := F) c) $$ [HtB Hrx Hrw]
  · isplitl [HtB]; · iexact HtB
    isplitl [Hrx] <;> iassumption
  ihave HO := (show owes (c : Thread nD τ) ((dats m ρ 0 c).owed t0_0.castSucc) W ⊢ (owing c (dues c) : sProp 𝕄) from by
    unfold owing; iintro H; iexists W; iexact H) $$ HO
  icases Hsg with ⟨G0, G1, G2, G3, G4, G5, G6⟩
  iapply (kernel_signal m ρ K c ⟨_, k0_dev1_lt c⟩ 0 (dev_signal c).1 _) $$ [HO G0]
  · isplitr; · iexact HR
    isplitl [HO] <;> iassumption
  iintro HO
  iapply (kernel_signal m ρ K c ⟨_, k0_dev2_lt c⟩ 1 (dev_signal c).2.1 _) $$ [HO G1]
  · isplitr; · iexact HR
    isplitl [HO] <;> iassumption
  iintro HO
  iapply (kernel_signal m ρ K c ⟨_, k0_dev3_lt c⟩ 2 (dev_signal c).2.2.1 _) $$ [HO G2]
  · isplitr; · iexact HR
    isplitl [HO] <;> iassumption
  iintro HO
  iapply (kernel_signal m ρ K c ⟨_, k0_dev4_lt c⟩ 3 (dev_signal c).2.2.2.1 _) $$ [HO G3]
  · isplitr; · iexact HR
    isplitl [HO] <;> iassumption
  iintro HO
  iapply (kernel_signal m ρ K c ⟨_, k0_dev5_lt c⟩ 4 (dev_signal c).2.2.2.2.1 _) $$ [HO G4]
  · isplitr; · iexact HR
    isplitl [HO] <;> iassumption
  iintro HO
  iapply (kernel_signal m ρ K c ⟨_, k0_dev6_lt c⟩ 5 (dev_signal c).2.2.2.2.2.1 _) $$ [HO G5]
  · isplitr; · iexact HR
    isplitl [HO] <;> iassumption
  iintro HO
  iapply (kernel_signal m ρ K c ⟨_, k0_dev7_lt c⟩ 6 (dev_signal c).2.2.2.2.2.2 _) $$ [HO G6]
  · isplitr; · iexact HR
    isplitl [HO] <;> iassumption
  iintro HO
  -- the wait for the others' signals
  iapply (step_barrier m ρ K c) $$ [HO HcB HpB]
  · isplitr; · iexact HR
    isplitl [HO]; · iexact HO
    isplitr; · iexact Hlev
    isplitl [HcB] <;> iassumption
  iintro ⟨HO, HzB, Hfree⟩
  -- the sends
  ihave Hsd := (seven_sends m ρ c) $$ [Hws Hxs Hfree HtS]
  · isplitl [Hws]; · iexact Hws
    isplitl [Hxs]; · iexact Hxs
    isplitl [Hfree] <;> iassumption
  icases Hsd with ⟨G0, G1, G2, G3, G4, G5, G6⟩
  iapply (kernel_send m ρ K c 0 1#32 rfl ⟨_, k0_dev8_lt c⟩ ⟨_, k0_dev9_lt c⟩ (dev_w c).1 (dev_x c).1 _ ![1] rfl) $$ [HO G0]
  · isplitr; · iexact HR
    isplitl [HO] <;> iassumption
  iintro ⟨HO, S0⟩
  iapply (kernel_send m ρ K c 1 2#32 rfl ⟨_, k0_dev10_lt c⟩ ⟨_, k0_dev11_lt c⟩ (dev_w c).2.1 (dev_x c).2.1 _ ![2] rfl) $$ [HO G1]
  · isplitr; · iexact HR
    isplitl [HO] <;> iassumption
  iintro ⟨HO, S1⟩
  iapply (kernel_send m ρ K c 2 3#32 rfl ⟨_, k0_dev12_lt c⟩ ⟨_, k0_dev13_lt c⟩ (dev_w c).2.2.1 (dev_x c).2.2.1 _ ![3] rfl) $$ [HO G2]
  · isplitr; · iexact HR
    isplitl [HO] <;> iassumption
  iintro ⟨HO, S2⟩
  iapply (kernel_send m ρ K c 3 4#32 rfl ⟨_, k0_dev14_lt c⟩ ⟨_, k0_dev15_lt c⟩ (dev_w c).2.2.2.1 (dev_x c).2.2.2.1 _ ![4] rfl) $$ [HO G3]
  · isplitr; · iexact HR
    isplitl [HO] <;> iassumption
  iintro ⟨HO, S3⟩
  iapply (kernel_send m ρ K c 4 5#32 rfl ⟨_, k0_dev16_lt c⟩ ⟨_, k0_dev17_lt c⟩ (dev_w c).2.2.2.2.1 (dev_x c).2.2.2.2.1 _ ![5] rfl) $$ [HO G4]
  · isplitr; · iexact HR
    isplitl [HO] <;> iassumption
  iintro ⟨HO, S4⟩
  iapply (kernel_send m ρ K c 5 6#32 rfl ⟨_, k0_dev18_lt c⟩ ⟨_, k0_dev19_lt c⟩ (dev_w c).2.2.2.2.2.1 (dev_x c).2.2.2.2.2.1 _ ![6] rfl) $$ [HO G5]
  · isplitr; · iexact HR
    isplitl [HO] <;> iassumption
  iintro ⟨HO, S5⟩
  iapply (kernel_send m ρ K c 6 7#32 rfl ⟨_, k0_dev20_lt c⟩ ⟨_, k0_dev21_lt c⟩ (dev_w c).2.2.2.2.2.2 (dev_x c).2.2.2.2.2.2 _ ![7] rfl) $$ [HO G6]
  · isplitr; · iexact HR
    isplitl [HO] <;> iassumption
  iintro ⟨HO, S6⟩
  -- the device's own block
  iapply (step_loadOwnX m ρ c _ (k0_off5_eq c) _) $$ Hx0; iintro Hx0
  iapply (step_loadOwnW m ρ c) $$ Hw0; iintro Hw0
  -- the arrivals
  ihave Htk := (Entails.of_eq (bigSep_seven fun r => toTake (F := F) c r)) $$ Htk
  icases Htk with ⟨G0, G1, G2, G3, G4, G5, G6⟩
  iapply (kernel_take m ρ K c 0 1#32 rfl) $$ [HO G0]
  · isplitr; · iexact HR
    isplitl [HO] <;> iassumption
  iintro ⟨HO, T0⟩
  iapply (kernel_take m ρ K c 1 2#32 rfl) $$ [HO G1]
  · isplitr; · iexact HR
    isplitl [HO] <;> iassumption
  iintro ⟨HO, T1⟩
  iapply (kernel_take m ρ K c 2 3#32 rfl) $$ [HO G2]
  · isplitr; · iexact HR
    isplitl [HO] <;> iassumption
  iintro ⟨HO, T2⟩
  iapply (kernel_take m ρ K c 3 4#32 rfl) $$ [HO G3]
  · isplitr; · iexact HR
    isplitl [HO] <;> iassumption
  iintro ⟨HO, T3⟩
  iapply (kernel_take m ρ K c 4 5#32 rfl) $$ [HO G4]
  · isplitr; · iexact HR
    isplitl [HO] <;> iassumption
  iintro ⟨HO, T4⟩
  iapply (kernel_take m ρ K c 5 6#32 rfl) $$ [HO G5]
  · isplitr; · iexact HR
    isplitl [HO] <;> iassumption
  iintro ⟨HO, T5⟩
  iapply (kernel_take m ρ K c 6 7#32 rfl) $$ [HO G6]
  · isplitr; · iexact HR
    isplitl [HO] <;> iassumption
  iintro ⟨HO, T6⟩
  -- the scales and the result
  iapply (wp_load_rect 𝒱₀ (c : Thread nD τ) none Set.univ (m := sxM) (r := rS) (Finset.subset_univ _)) $$ Hsx; iintro Hsx
  iapply (wp_load_rect 𝒱₀ (c : Thread nD τ) none Set.univ (m := swM) (r := rS) (Finset.subset_univ _)) $$ Hsw; iintro Hsw
  iapply (wp_load 𝒱₀ (c : Thread nD τ) none Set.univ (m := oM) (Finset.subset_univ _)) $$ Hout; iintro Hout
  iapply (wp_store 𝒱₀ (c : Thread nD τ) none Set.univ (m := oM) (r := rW) (Mk := Finset.univ) (Finset.subset_univ _)) $$ Hout; iintro Hout
  rw [write_o]
  -- the waits for the sends
  ihave Hbk := (Entails.of_eq (bigSep_seven fun r => toBack (F := F) c r)) $$ Hbk
  icases Hbk with ⟨G0, G1, G2, G3, G4, G5, G6⟩
  iapply (kernel_back m ρ K c 0 ![1] rfl) $$ [HO S0 G0]
  · isplitr; · iexact HR
    isplitl [HO]; · iexact HO
    isplitl [S0] <;> iassumption
  iintro ⟨HO, B0⟩
  iapply (kernel_back m ρ K c 1 ![2] rfl) $$ [HO S1 G1]
  · isplitr; · iexact HR
    isplitl [HO]; · iexact HO
    isplitl [S1] <;> iassumption
  iintro ⟨HO, B1⟩
  iapply (kernel_back m ρ K c 2 ![3] rfl) $$ [HO S2 G2]
  · isplitr; · iexact HR
    isplitl [HO]; · iexact HO
    isplitl [S2] <;> iassumption
  iintro ⟨HO, B2⟩
  iapply (kernel_back m ρ K c 3 ![4] rfl) $$ [HO S3 G3]
  · isplitr; · iexact HR
    isplitl [HO]; · iexact HO
    isplitl [S3] <;> iassumption
  iintro ⟨HO, B3⟩
  iapply (kernel_back m ρ K c 4 ![5] rfl) $$ [HO S4 G4]
  · isplitr; · iexact HR
    isplitl [HO]; · iexact HO
    isplitl [S4] <;> iassumption
  iintro ⟨HO, B4⟩
  iapply (kernel_back m ρ K c 5 ![6] rfl) $$ [HO S5 G5]
  · isplitr; · iexact HR
    isplitl [HO]; · iexact HO
    isplitl [S5] <;> iassumption
  iintro ⟨HO, B5⟩
  iapply (kernel_back m ρ K c 6 ![7] rfl) $$ [HO S6 G6]
  · isplitr; · iexact HR
    isplitl [HO]; · iexact HO
    isplitl [S6] <;> iassumption
  iintro ⟨HO, B6⟩
  rw [wp_ret]
  imod (idle_close m ρ K c) $$ [Hid] with Hid
  · isplitr; · iexact HR
    iexact Hid
  imodintro
  iapply Hk
  ihave HT := (Entails.of_eq (bigSep_seven fun r => taken (F := F) c r).symm) $$ [T0 T1 T2 T3 T4 T5 T6]
  · isplitl [T0]; · iexact T0
    isplitl [T1]; · iexact T1
    isplitl [T2]; · iexact T2
    isplitl [T3]; · iexact T3
    isplitl [T4]; · iexact T4
    isplitl [T5] <;> iassumption
  ihave HB := (Entails.of_eq (bigSep_seven fun r => back m ρ c r).symm) $$ [B0 B1 B2 B3 B4 B5 B6]
  · isplitl [B0]; · iexact B0
    isplitl [B1]; · iexact B1
    isplitl [B2]; · iexact B2
    isplitl [B3]; · iexact B3
    isplitl [B4]; · iexact B4
    isplitl [B5] <;> iassumption
  ihave Hall := (gather m ρ c) $$ [HT HB Hid Hw0 Hx0 Hrx0 Hrw0]
  · isplitl [HT]; · iexact HT
    isplitl [HB]; · iexact HB
    isplitl [Hid]; · iexact Hid
    isplitl [Hw0 Hx0]
    · isplitl [Hw0] <;> iassumption
    isplitl [Hrx0] <;> iassumption
  icases Hall with ⟨Hscr, Hz⟩
  unfold bodyPost Φ₁ Dat.owesAt Pipeline.owesWithin
  rw [show (dats m ρ 0 c).owed t0_0.succ = 0 from rfl]
  isplitl [Hscr Hz HzB]
  · isplitl [Hscr]; · iexact Hscr
    isplitl [Hz] <;> iassumption
  isplitl [HO]
  · unfold owing
    icases HO with ⟨%W', HO⟩
    iexists W'
    isplitr; · ipureintro; exact fun _ _ => Or.inl trivial
    iexact HO
  isplitl [Hxi]
  · iexists _; isplitr; · (ipureintro; rfl)
    iexact Hxi
  isplitl [Hwi]
  · iexists _; isplitr; · (ipureintro; rfl)
    iexact Hwi
  isplitl [Hsx]
  · iexists _; isplitr; · (ipureintro; rfl)
    iexact Hsx
  isplitl [Hsw]
  · iexists _; isplitr; · (ipureintro; rfl)
    iexact Hsw
  iexists (outAt m ρ c); isplitr; · (ipureintro; rfl)
  iexact Hout

/-! ## The library's obligation -/

omit [FloatOps F] in
/-- To own a whole buffer's memref is to own the buffer. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the launch hands the body. -/
def bodyStart (c : Dev nD) : sProp 𝕄 :=
  iprop(Φ₀ m ρ c
    ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

/-- From what the launch hands over, the body runs to `bodyPost`. -/
theorem body_from_start (c : Dev nD) :
    bodyStart m ρ c ⊢ wp frame (wpE (defs₀ (F := F)) 𝒱₀ c none) Set.univ
          (cc0_body xiM (Memref.isWhole_whole _) wiM (Memref.isWhole_whole _) sxM (Memref.isWhole_whole _) swM (Memref.isWhole_whole _) oM (Memref.isWhole_whole _)
            xM (Memref.isWhole_whole _) wM (Memref.isWhole_whole _) rxM (Memref.isWhole_whole _) rwM (Memref.isWhole_whole _) cc0_scratch4 cc0_scratch5 cc0_scratch6 cc0_scratch7)
          (fun _ => bodyPost m ρ c) := by
  unfold bodyStart Φ₀ start
  iintro ⟨⟨⟨%K, Hh⟩, Hs⟩, Hrest⟩
  iapply (sound_body m ρ K c fun _ => bodyPost m ρ c)
  unfold bodyPre
  isplitl
  · isplitl [Hh Hs]
    · isplitl [Hh] <;> iassumption
    iexact Hrest
  · iintro H; iexact H

set_option maxRecDepth 40000 in
/-- The launch's condition on the body. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  exact body_from_start m ρ c

end Cert.Exchange

end
-- ==== Proof.Launch.lean ====
/-
# The launch

The counters become the cells' invariants, the duties are minted by the cell they belong to and dealt to the devices
that pay them, and the credits a device waits with are what the others owe it; then the whole program's run.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and duties -/

/-- The copy semaphores are the call's own, each once. -/
theorem ownSemFacts : Pipeline.OwnSemFacts cfg0.spec osem := by decide +kernel

/-- Every operand is held whole. -/
theorem share_eq (c : Dev nD) (w : Fin cfg0.W) : (dats m ρ 0 c).share w = fullShare := by unfold Dat.share; split <;> rfl

/-- Different cells are different semaphores. -/
theorem csem_inj : Function.Injective csem := by
  rintro (_ | x) (_ | y) h
  · rfl
  · exact absurd h (by simp [csem])
  · exact absurd h (by simp [csem])
  · exact congrArg some (sem_inj (by simpa [csem] using h))

/-- The same, over the devices. -/
theorem kcell_injective : Function.Injective (kcell : Dev nD × Option (Fin 4 × Fin 8) → GSem nD τ sig) := by
  rintro ⟨c, k⟩ ⟨c', k'⟩ h
  obtain rfl : c = c' := congrArg (fun g : GSem nD τ sig => g.1.1) h
  exact Prod.ext rfl (csem_inj (congrArg Prod.snd h))

/-- All the cells of the protocol. -/
def allCells : Finset (GSem nD τ sig) := Finset.univ.map ⟨kcell, kcell_injective⟩

/-- A device's own duties, five to each distance: its barrier's, for the device that far before it, and those of its
    two sends and of its two arrivals. -/
def dutyOf (c : Dev nD) (i : Fin 5 × Fin 7) : Option (Fin 4 × Fin 8) × Fin 8 := match i.1 with
  | 0 => (none, fr c i.2) | 1 => (some (0, i.2.succ), 0) | 2 => (some (1, i.2.succ), 0) | 3 => (some (2, fr c i.2), 0) | 4 => (some (3, fr c i.2), 0)

/-- Different duties of a device have different tokens. -/
theorem dutyOf_inj : ∀ c, Function.Injective (dutyOf c) := by decide +kernel

/-- The token of a duty, and the tokens of all duties. -/
abbrev tokOf (ci : Dev nD × (Fin 5 × Fin 7)) : GSem nD τ sig × ℕ × Fin 8 := (kcell (ci.1, (dutyOf ci.1 ci.2).1), 0, (dutyOf ci.1 ci.2).2)
theorem tokOf_injective : Function.Injective tokOf := by
  rintro ⟨c, i⟩ ⟨c', i'⟩ h
  have hk := kcell_injective (congrArg Prod.fst h)
  obtain rfl : c = c' := congrArg Prod.fst hk
  exact Prod.ext rfl (dutyOf_inj c (Prod.ext (congrArg Prod.snd hk) (congrArg (fun x : GSem nD τ sig × ℕ × Fin 8 => x.2.2) h)))
def allToks : Finset (GSem nD τ sig × ℕ × Fin 8) := Finset.univ.map ⟨tokOf, tokOf_injective⟩

/-- The ghost state the launch begins with. -/
def u₀ : UU := (initOf (Pipeline.cells cfgs cellOf_inj) (Pipeline.launchToks cfgs cellOf_inj), initOf allCells allToks)

/-- The duties of device `c`'s own cells; -/
def toks (c : Dev nD) : sProp 𝕄 :=
  iprop((bigSep Finset.univ fun r => dutyTok ER (barCell c) 0 (fr c r)) ∗ (bigSep Finset.univ fun r : Fin 7 => dutyTok ER (cell c 0 r.succ) 0 0)
    ∗ (bigSep Finset.univ fun r : Fin 7 => dutyTok ER (cell c 1 r.succ) 0 0) ∗ (bigSep Finset.univ fun r => dutyTok ER (cell c 2 (fr c r)) 0 0)
    ∗ (bigSep Finset.univ fun r => dutyTok ER (cell c 3 (fr c r)) 0 0))
/-- the duties device `c` pays. -/
def payToks (c : Dev nD) : sProp 𝕄 :=
  iprop((bigSep Finset.univ fun r => dutyTok ER (barCell (sh c r)) 0 c) ∗ bigSep Finset.univ fun r => sendToks c r)

/-- What goes from every device to the one at each distance before it, goes to every device from each distance after. -/
theorem around (Φ : Dev nD → Dev nD → sProp 𝕄) :
    (bigSep Finset.univ fun c => bigSep Finset.univ fun r => Φ c (fr c r)) = bigSep Finset.univ fun c => bigSep Finset.univ fun r => Φ (sh c r) c := by
  rw [bigSep_univ_comm, bigSep_univ_comm (fun (c : Dev nD) r => Φ (sh c r) c)]
  refine bigSep_congr fun r _ => ?_
  rw [bigSep_univ_equiv (shE r)]
  refine bigSep_congr fun c _ => ?_
  show Φ (sh c r) (fr (sh c r) r) = _
  rw [fr_sh]

/-- The tokens, minted by the cell they belong to, are dealt to the devices that pay them. -/
theorem toks_around : (bigSep Finset.univ fun c : Dev nD => (toks c : sProp 𝕄)) ⊢ bigSep Finset.univ fun c : Dev nD => payToks c := by
  unfold toks payToks sendToks
  simp only [bigSep_sep']
  rw [around (fun c d => dutyTok ER (barCell c) 0 d), around (fun c d => dutyTok ER (cell c 2 d) 0 0), around (fun c d => dutyTok ER (cell c 3 d) 0 0)]
  iintro ⟨H1, H2, H3, H4, H5⟩
  isplitl [H1]; · iexact H1
  isplitl [H2 H4]
  · isplitl [H2] <;> iassumption
  isplitl [H3] <;> iassumption

/-- A conjunction over the protocol's semaphores is the barrier's part and the thirty-two's. -/
theorem bigSep_opt {M : Type} [URA M] {I : Type} [Fintype I] [DecidableEq I] (Φ : Option I → sProp M) :
    bigSep Finset.univ Φ = iprop(Φ none ∗ bigSep Finset.univ fun i => Φ (some i)) := by
  rw [bigSep_univ_split none]
  have : (Finset.univ : Finset (Option I)).erase none = Finset.univ.map Function.Embedding.some := by
    ext x; cases x <;> simp
  rw [this, bigSep_map]; rfl

/-! ## What the launch deals -/

/-- What the launch element deals device `c`; -/
def G (c : Dev nD) : sProp 𝕄 :=
  iprop((bigSep Finset.univ fun k => roundState ER (rd m ρ) (kcell (c, k)) 0)
    ∗ (bigSep Finset.univ fun k => iprop(atPos ER (kcell (c, k)) 0 ∅ 0 ∗ reached ER (kcell (c, k)) 0)) ∗ toks c)

/-- Positions of device `c`, by use. -/
def places (c : Dev nD) : sProp 𝕄 :=
  iprop(atPos ER (barCell c) 0 ∅ 0 ∗ (bigSep Finset.univ fun r => iprop(atPos ER (cell c 2 (fr c r)) 0 ∅ 0 ∗ atPos ER (cell c 3 (fr c r)) 0 ∅ 0))
    ∗ (bigSep Finset.univ fun r => toBack c r) ∗ idle c (fun g => atPos ER g 0 ∅ 0))
/-- what the global step makes of it. -/
def G' (c : Dev nD) : sProp 𝕄 := iprop(∃ K, records m ρ K ∗ places c ∗ payToks c)

/-- A device's places, gathered from its cells. -/
theorem places_eq (c : Dev nD) : (bigSep Finset.univ fun k => atPos ER (kcell (c, k)) 0 ∅ 0 : sProp 𝕄) ⊢ places c := by
  unfold places toBack idle
  rw [bigSep_opt]
  show iprop(atPos ER (barCell c) 0 ∅ 0 ∗ bigSep Finset.univ fun ak : Fin 4 × Fin 8 => atPos ER (cell c ak.1 ak.2) 0 ∅ 0) ⊢ _
  rw [all_cells (fun g => (atPos ER g 0 ∅ 0 : sProp 𝕄)) c]
  simp only [bigSep_sep']
  iintro ⟨HB, ⟨H0, R0⟩, ⟨H1, R1⟩, ⟨H2, R2⟩, H3, R3⟩
  isplitl [HB]; · iexact HB
  isplitl [R2 R3]
  · isplitl [R2] <;> iassumption
  isplitl [R0 R1]
  · isplitl [R0] <;> iassumption
  isplitl [H0]; · iexact H0
  isplitl [H1]; · iexact H1
  isplitl [H2] <;> iassumption

/-- The initial ghost state gives each device its share. -/
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks; rw [bigSep_univ_prod, bigSep_univ_eq_bigSepL ([0, 1, 2, 3, 4] : List (Fin 5)) (by decide) (by decide)]; rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the one the launch hands over unscoped. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- The counters at zero, one by one. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  unfold Pipeline.ownSems0
  rw [unscopedSems0_eq, bigSep_opt]
  iintro ⟨H, HB⟩
  isplitl [HB]; · iexact HB
  iexact H

/-- One counter at zero becomes a cell's invariant. -/
theorem cell_alloc (c : Dev nD) (k : Option (Fin 4 × Fin 8)) :
    iprop(semVal (kcell (c, k)) 0 ∗ roundState ER (rd m ρ) (kcell (c, k)) 0) ⊢ (|={Set.univ}=> iprop(∃ κ : ℕ, cellInv ER (rd m ρ) κ (kcell (c, k))) : sProp 𝕄) :=
  (Rounds.body_intro ER (rd m ρ) (kcell (c, k))).trans inv_alloc

/-- So do all of one device's. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => cell_alloc m ρ c k).trans (bigSep_fupd _ _)) $$ [Hv Hst] with Hinv
  · isplitl [Hv] <;> iassumption
  imodintro
  isplitl [Hinv]; · iexact Hinv
  isplitl [Hat]; · iexact Hat
  iexact Htok

/-- What a device gets out of the exchange. -/
theorem G'_intro (K : Dev nD × Option (Fin 4 × Fin 8) → ℕ) (c : Dev nD) : iprop(records m ρ K ∗ (places c ∗ payToks c)) ⊢ G' m ρ c := by
  unfold G'; iintro H; iexists K; iexact H

/-- A fact everybody may use, given to everybody. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' shares, regrouped: everybody knows every cell, each keeps its places and its duties. -/
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  simp only [bigSep_sep']
  rw [← bigSep_univ_prod (fun ck : Dev nD × Option (Fin 4 × Fin 8) => iprop(∃ κ : ℕ, cellInv ER (rd m ρ) κ (kcell ck))),
    ← bigSep_univ_prod (fun ck : Dev nD × Option (Fin 4 × Fin 8) => (reached ER (kcell ck) 0 : sProp 𝕄))]
  iintro ⟨HI, ⟨Hat, #HR⟩, Htok⟩
  ihave HK := (BI.bigSep_exists_pi Finset.univ (fun (ck : Dev nD × Option (Fin 4 × Fin 8)) (κ : ℕ) => (cellInv ER (rd m ρ) κ (kcell ck) : sProp 𝕄))) $$ HI
  icases HK with ⟨%K, #HI⟩
  ihave Htk := (toks_around (F := F)) $$ Htok
  ihave Hpl := (show (bigSep Finset.univ fun c : Dev nD => bigSep Finset.univ fun k => (atPos ER (kcell (c, k)) 0 ∅ 0 : sProp 𝕄)) ⊢ bigSep Finset.univ fun c : Dev nD => places c from
    bigSep_mono fun c _ => places_eq c) $$ Hat
  iapply (bigSep_with (R := records m ρ K) fun c _ => G'_intro m ρ K c)
  isplitr
  · unfold records; isplitl; · iexact HI
    iexact HR
  · rw [bigSep_sep']
    isplitl [Hpl]; · iexact Hpl
    iexact Htk

/-- The launch's global step: from the counters and shares of all devices to what each starts with. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.Exchange

end
-- ==== Proof.Run.lean ====
/-
# The run

The credits each device starts with are what the others owe its cells; with them the launch's side conditions, and the
run of the whole program.
-/
module

public import proofs.«01_k».proof.Proof.Launch
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Where the pipeline's own ghost state lives. -/
abbrev EP : Emb (UR sig nD τ) (MT nD τ sig Unit (Elt F) ℕ UU ℕ) := embL

/-! ## Credits -/

/-- Cells are equal when device and semaphore are. -/
theorem kcell_iff {a b : Dev nD × Option (Fin 4 × Fin 8)} : Iff (kcell a = kcell b) (a = b) := kcell_injective.eq_iff

/-- What device `d` owes a cell, over its distances: the barrier's unit, and the two arrivals' credits. -/
theorem owed_sum (d : Dev nD) (ck : Dev nD × Option (Fin 4 × Fin 8)) :
    O₀ d (kcell ck) () = ∑ r, ((if ck = (sh d r, none) then 1 else 0) + ((if ck = (sh d r, some (2, d)) then NW else 0) + if ck = (sh d r, some (3, d)) then NX else 0)) := by
  have e (r : Fin 7) : (kcell ck = (sig1 d r).1 ↔ ck = (sh d r, none)) ∧ (kcell ck = (sendW1 d r).1 ↔ ck = (sh d r, some (2, d)))
      ∧ (kcell ck = (sendX1 d r).1 ↔ ck = (sh d r, some (3, d))) :=
    ⟨kcell_iff (b := (sh d r, none)), kcell_iff (b := (sh d r, some (2, d))), kcell_iff (b := (sh d r, some (3, d)))⟩
  unfold O₀
  rw [tally_apply, Fin.sum_univ_seven]
  simp only [dues, sends, List.map_cons, List.map_nil, List.sum_cons, List.sum_nil, fun r => (e r).1, fun r => (e r).2.1, fun r => (e r).2.2]
  simp only [sig1, sendW1, sendX1]
  omega

/-- The others owe a barrier seven units in all. -/
theorem owed_bar (c : Dev nD) : ∑ d, O₀ d (barCell c) () = 7 := by
  rw [Finset.sum_congr rfl fun d _ => owed_sum d (c, none)]
  simp only [Prod.mk.injEq, reduceCtorEq, and_false, if_false, and_true, Nat.add_zero]
  revert c; decide +kernel

/-- An arrival semaphore is owed one copy. -/
theorem owed_recv (c : Dev nD) (r : Fin 7) :
    ∑ d, O₀ d (cell c 2 (fr c r)) () = NW ∧ ∑ d, O₀ d (cell c 3 (fr c r)) () = NX := by
  have one (N : ℕ) : ∑ d, ∑ s, (if c = sh d s ∧ fr c r = d then N else 0) = N := by
    rw [Finset.sum_eq_single (fr c r) (fun d _ hd => Finset.sum_eq_zero fun s _ => if_neg fun h => hd h.2.symm) (fun h => absurd (Finset.mem_univ _) h),
      Finset.sum_eq_single r (fun s _ hs => if_neg fun h => hs (sh_inj _ (h.1.symm.trans (sh_fr c r).symm))) (fun h => absurd (Finset.mem_univ _) h),
      if_pos ⟨(sh_fr c r).symm, rfl⟩]
  constructor
  · rw [Finset.sum_congr rfl fun d _ => owed_sum d (c, some (2, fr c r))]
    simp only [Prod.mk.injEq, reduceCtorEq, and_false, if_false, Option.some.injEq, true_and, Nat.zero_add, Nat.add_zero, show ¬ ((2 : Fin 4) = 3) by decide, false_and]
    exact one NW
  · rw [Finset.sum_congr rfl fun d _ => owed_sum d (c, some (3, fr c r))]
    simp only [Prod.mk.injEq, reduceCtorEq, and_false, if_false, Option.some.injEq, true_and, Nat.zero_add, Nat.add_zero, show ¬ ((3 : Fin 4) = 2) by decide, false_and]
    exact one NX

/-- What is owed a cell is the credit the launch gives for it. -/
theorem launch_of {g : GSem nD τ sig} {n : ℕ} (h : ∑ d, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The credits device `c` starts with cover its barrier and its fourteen arrivals. -/
theorem creds (c : Dev nD) :
    (Pipeline.launchCred O₀ c : sProp 𝕄) ⊢ iprop(cred (tallyAt (barCell c) () 7)
      ∗ bigSep Finset.univ fun r => iprop(cred (tallyAt (cell c 2 (fr c r)) () (amt 2)) ∗ cred (tallyAt (cell c 3 (fr c r)) () (amt 3)))) := by
  unfold Pipeline.launchCred
  refine (bigSep_subset (Finset.subset_univ (Finset.univ.map ⟨csem, csem_inj⟩))).trans ?_
  rw [bigSep_map, bigSep_opt]
  show iprop(cred (tallyOn (barCell c) (launchCredit (Pipeline.owing O₀) 0 (barCell c)))
    ∗ bigSep Finset.univ fun ak : Fin 4 × Fin 8 => cred (tallyOn (cell c ak.1 ak.2) (launchCredit (Pipeline.owing O₀) 0 (cell c ak.1 ak.2)))) ⊢ _
  rw [all_cells (fun g => (cred (tallyOn g (launchCredit (Pipeline.owing O₀) 0 g)) : sProp 𝕄)) c, launch_of (owed_bar c)]
  simp only [fun r => launch_of (owed_recv c r).1, fun r => launch_of (owed_recv c r).2, bigSep_sep']
  iintro ⟨HB, -, -, ⟨-, H2⟩, -, H3⟩
  isplitl [HB]; · iexact HB
  isplitl [H2]; · iexact H2
  iexact H3

/-! ## The launch's side conditions -/

/-- The launch's parts make up what a device starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  unfold start held G' places payToks toTake
  simp only [bigSep_sep']
  icases Hc with ⟨HcB, Hc2, Hc3⟩
  icases HG with ⟨%K, HR, ⟨HaB, ⟨Ha2, Ha3⟩, Hback, Hidle⟩, Hsig, Hsend⟩
  imodintro
  isplitl
  · iexists K
    isplitl [HR]; · iexact HR
    isplitl [HcB HaB]
    · isplitl [HcB] <;> iassumption
    isplitl [Hsig]; · iexact Hsig
    isplitl [Hsend]; · iexact Hsend
    isplitl [Hc2 Ha2 Hc3 Ha3]
    · isplitl [Hc2 Ha2]
      · isplitl [Hc2] <;> iassumption
      · isplitl [Hc3] <;> iassumption
    isplitl [Hback]; · iexact Hback
    isplitl [Hidle]; · iexact Hidle
    iexact Hlev
  · iempintro

/-- With the scratch buffers, what the body starts with. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch some_
  iintro ⟨Hs, -, Hr⟩
  isplitl [Hs] <;> iassumption

/-- What the body ends with gives the scratch buffers and the counters back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scratch some_ Pipeline.ownSems0
  iintro ⟨Hr, Hz, HzB⟩
  isplitl [HzB]; · iexact HzB
  isplitl [Hz] <;> iassumption

/-- The pipeline's own waits are below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- An array's contents after the run. -/
def finalA (c : Dev nD) (w : Fin cfg0.W) : Buf (Elt F) ((cfg0.win w).arr.view.loc (c : Thread nD τ)) := (dats m ρ 0 c).arrAt w cfg0.N

/-- Every device's arrays end at those contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- On eight devices, for any float values, from any memory with zero counters: every weakly fair execution of @main
    terminates, with each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays of the operands hold after the run what they held before it. -/
theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

end Cert.Exchange

end
-- ==== Proof.Sums.lean ====
/-
# Sums and products

What a matrix product is entry by entry over the extended reals, and the two ways of splitting a sum that the
equation needs: a long sum by its blocks, and a sum over the devices as one device's term and the seven others'.
-/
module

public import proofs.«01_k».proof.Proof.Cells
public import proofs.«01_k».proof.Proof.Gen.ReferenceIdeal
public import Idealize.ShloMosaic.Lib.MatmulPlain
public import Idealize.ShloMosaic.PureOps.Ideal.Laws

@[expose] public section

noncomputable section

namespace Cert.Exchange

open Idealize.ShloMosaic Idealize.ShloMosaic.ValueIdx
open Cert.KernelIdeal (nD)

/-- Entry `(a, b)` of a kernel's block product: 512 terms. -/
theorem block_entry {φ₁ φ₂ : FTy} (x : FVec Ideal ⟨2, ![512, 512]⟩ φ₁) (w : FVec Ideal ⟨2, ![512, 2048]⟩ φ₂) (a : Fin 512) (b : Fin 2048) :
    matmul Cert.KernelIdeal.dot_S512x512_S512x2048_S512x2048_1_0_0_1_n_n none x w (constant _ .f32 0x00000000#32) (ix2 a b)
      = ∑ k : Fin 512, x (ix2 a k) * w (ix2 k b) := by
  refine (Ideal.matmul_plain_apply none x w _ a b).trans ?_
  rw [show (constant ⟨2, ![512, 2048]⟩ .f32 0x00000000#32 : FVec Ideal _ .f32) (ix2 a b) = Ideal.ofBits .f32 0x00000000#32 from rfl,
    Ideal.ofBits_zero_f32, zero_add]

/-- Entry `(a, b)` of the reference's whole product: 4096 terms. -/
theorem whole_entry {φ₁ φ₂ : FTy} (x : FVec Ideal ⟨2, ![4096, 4096]⟩ φ₁) (w : FVec Ideal ⟨2, ![4096, 2048]⟩ φ₂) (a : Fin 4096) (b : Fin 2048) :
    matmul Cert.ReferenceIdeal.dot_S4096x4096_S4096x2048_S4096x2048_1_0_0_1_n_n none x w (constant _ .f32 0x00000000#32) (ix2 a b)
      = ∑ k : Fin 4096, x (ix2 a k) * w (ix2 k b) := by
  refine (Ideal.matmul_plain_apply none x w _ a b).trans ?_
  rw [show (constant ⟨2, ![4096, 2048]⟩ .f32 0x00000000#32 : FVec Ideal _ .f32) (ix2 a b) = Ideal.ofBits .f32 0x00000000#32 from rfl,
    Ideal.ofBits_zero_f32, zero_add]

/-- Position `k` of block `o`, of eight blocks of 512. -/
def at8 (o : Fin 8) (k : Fin 512) : Fin 4096 := ⟨512 * o.val + k.val, by omega⟩

/-- A sum of 4096 terms is the sum of its eight blocks' sums. -/
theorem sum_blocks (f : Fin 4096 → EReal) : ∑ k, f k = ∑ o, ∑ k, f (at8 o k) := by
  rw [← Equiv.sum_comp (finProdFinEquiv : Fin 8 × Fin 512 ≃ Fin (8 * 512)) f, Fintype.sum_prod_type]
  refine Finset.sum_congr rfl fun o _ => Finset.sum_congr rfl fun k _ => congrArg f (Fin.ext ?_)
  show k.val + 512 * o.val = 512 * o.val + k.val
  omega

/-- A sum over the devices is one device's term and those of the seven before it. -/
theorem sum_around (c : Dev nD) (f : Dev nD → EReal) :
    ∑ o, f o = f c + f (fr c 0) + f (fr c 1) + f (fr c 2) + f (fr c 3) + f (fr c 4) + f (fr c 5) + f (fr c 6) := by
  rw [← Finset.add_sum_erase Finset.univ f (Finset.mem_univ c), univ_except ⟨fr c, fr_inj c⟩ c (fr_ne c), Finset.sum_map, Fin.sum_univ_seven]
  simp only [Function.Embedding.coeFn_mk, add_assoc]

end Cert.Exchange

end
-- ==== Proof.Result.lean ====
/-
# What each device computes

The array of results after the run, and each of its entries over the extended reals: the eight devices' partial
products, times the two scales.
-/
module

public import proofs.«01_k».proof.Proof.Run
public import proofs.«01_k».proof.Proof.Sums
public import Idealize.ShloMosaic.Lib.Pipeline.ValueKit.Geometry

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

variable (m : (ℓ : Loc nD τ sig) → Buf (Elt F) ℓ) (ρ : Dev nD → PrngReg)

/-- The whole block of an array is the array. -/
theorem xin_eq (c : Dev nD) : xin m ρ c = m ((c : Thread nD τ).loc main_arg0) :=
  Memref.read_access_unit_zero (Elt F) main_arg0 (funext fun a => by fin_cases a <;> decide) _ _
theorem win_eq (c : Dev nD) : win m ρ c = m ((c : Thread nD τ).loc main_arg1) :=
  Memref.read_access_unit_zero (Elt F) main_arg1 (funext fun a => by fin_cases a <;> decide) _ _
theorem sxin_eq (c : Dev nD) : sxin m ρ c = m ((c : Thread nD τ).loc main_arg2) :=
  Memref.read_access_unit_zero (Elt F) main_arg2 (funext fun a => by fin_cases a; decide) _ _
theorem swin_eq (c : Dev nD) : swin m ρ c = m ((c : Thread nD τ).loc main_arg3) :=
  Memref.read_access_unit_zero (Elt F) main_arg3 (funext fun a => by fin_cases a; decide) _ _

/-- The array of results ends with what the body computed. -/
theorem finalA_out (c : Dev nD) : finalA m ρ c 4 = outAt m ρ c :=
  (dats m ρ 0 c).arrAt_eq_of_after_last 4 t0_0 (by decide +kernel) (outAt m ρ c) fun _ => rfl

/-- The sender buffers hold the operands. -/
theorem xs_eq (c : Dev nD) : xs m ρ c = xin m ρ c := by
  unfold xs k0_pay1; dsimp only; rw [shapeCast_self, shapeCast_self]
theorem ws_eq (c : Dev nD) : ws m ρ c = win m ρ c := by
  unfold ws k0_pay2; dsimp only; rw [shapeCast_self, shapeCast_self]

/-- What arrived, read as a block again. -/
theorem gotX_down (c : Dev nD) (r : Fin 7) (h : S1x512x512.ShapeCasts S512x512) : shapeCast S512x512 (gotX m ρ c r) h = xblk m ρ (fr c r) c :=
  shapeCast_shapeCast _ _ _
theorem gotW_down (c : Dev nD) (r : Fin 7) (h : S1x512x2048.ShapeCasts S512x2048) : shapeCast S512x2048 (gotW m ρ c r) h = ws m ρ (fr c r) :=
  shapeCast_shapeCast _ _ _

/-- Block `j` of device `o`'s `x`, entry by entry. -/
theorem xblk_entry (o : Dev nD) (j : Fin 8) (a k : Fin 512) : xblk m ρ o j (ix2 a k) = m ((o : Thread nD τ).loc main_arg0) (ix2 (at8 j a) k) := by
  unfold xblk
  rw [View.read_apply, xs_eq, xin_eq]
  show m ((o : Thread nD τ).loc main_arg0) _ = _
  congr 1
  funext d; apply Fin.ext
  match d with
  | ⟨0, _⟩ => show 512 * j.val + 1 * a.val = 512 * j.val + a.val; omega
  | ⟨1, _⟩ => show 0 + 1 * k.val = k.val; omega

/-- A scale as loaded is the one entry of its array. -/
theorem scale_sx (f : Vec F S1 .f32) : scale sxM f = f (ix1 0) := by
  unfold scale; rw [View.read_apply]; exact congrArg f (funext fun a => by fin_cases a; rfl)
theorem scale_sw (f : Vec F S1 .f32) : scale swM f = f (ix1 0) := by
  unfold scale; rw [View.read_apply]; exact congrArg f (funext fun a => by fin_cases a; rfl)

/-! ## Over the extended reals -/

section Ideal
variable (m : (ℓ : Loc nD τ sig) → Buf (Elt Ideal) ℓ) (ρ : Dev nD → PrngReg)

/-- The four operands of device `c` as arrays of extended reals. -/
def argX (c : Dev nD) : S4096x512.Idx → EReal := m ((c : Thread nD τ).loc main_arg0)
def argW (c : Dev nD) : S512x2048.Idx → EReal := m ((c : Thread nD τ).loc main_arg1)
def argSX (c : Dev nD) : S1.Idx → EReal := m ((c : Thread nD τ).loc main_arg2)
def argSW (c : Dev nD) : S1.Idx → EReal := m ((c : Thread nD τ).loc main_arg3)

/-- What device `o`'s operands give to entry `(a, b)` of device `c`'s result. -/
def part (c o : Dev nD) (a : Fin 512) (b : Fin 2048) : EReal :=
  ∑ k : Fin 512, argX m o (ix2 (at8 c a) k) * argW m o (ix2 k b)

/-- The product of device `o`'s block and `w`, as the kernel forms it, has those entries. -/
theorem product_entry (c o : Dev nD) (a : Fin 512) (b : Fin 2048) :
    (matmul dot_S512x512_S512x2048_S512x2048_1_0_0_1_n_n none (extf .bf16 (xblk m ρ o c) bitsLt_fp8e5m2_bf16 : FVec Ideal S512x512 .bf16)
      (extf .bf16 (ws m ρ o) bitsLt_fp8e5m2_bf16 : FVec Ideal S512x2048 .bf16) (constant S512x2048 .f32 0x00000000#32)) (ix2 a b) = part m c o a b := by
  refine (block_entry _ _ a b).trans (Finset.sum_congr rfl fun k _ => ?_)
  have hx : (xblk m ρ o c (ix2 a k) : EReal) = argX m o (ix2 (at8 c a) k) := xblk_entry m ρ o c a k
  have hw : (ws m ρ o (ix2 k b) : EReal) = argW m o (ix2 k b) := congrFun ((ws_eq m ρ o).trans (win_eq m ρ o)) _
  exact congrArg₂ (· * ·) hx hw

/-- One addition: the partial sum, and the product of what arrived. -/
theorem add_entry (c : Dev nD) (r : Fin 7) (acc : FVec Ideal S512x2048 .f32) (a : Fin 512) (b : Fin 2048) :
    k0_pay4 acc (gotX m ρ c r) (gotW m ρ c r) (ix2 a b) = acc (ix2 a b) + part m c (fr c r) a b := by
  unfold k0_pay4
  rw [gotX_down, gotW_down, ← product_entry m ρ c (fr c r) a b]
  rfl

/-- Every entry of a device's result. -/
theorem outAt_entry (c : Dev nD) (a : Fin 512) (b : Fin 2048) :
    outAt m ρ c (ix2 a b) = (∑ o, part m c o a b)
      * (argSX m c (ix1 0) * argSW m c (ix1 0)) := by
  have h0 : acc0 m ρ c (ix2 a b) = part m c c a b := product_entry m ρ c c a b
  have h1 : acc1 m ρ c (ix2 a b) = _ := add_entry m ρ c 0 _ a b
  have h2 : acc2 m ρ c (ix2 a b) = _ := add_entry m ρ c 1 _ a b
  have h3 : acc3 m ρ c (ix2 a b) = _ := add_entry m ρ c 2 _ a b
  have h4 : acc4 m ρ c (ix2 a b) = _ := add_entry m ρ c 3 _ a b
  have h5 : acc5 m ρ c (ix2 a b) = _ := add_entry m ρ c 4 _ a b
  have h6 : acc6 m ρ c (ix2 a b) = _ := add_entry m ρ c 5 _ a b
  have hs : scale sxM (sxin m ρ c) = argSX m c (ix1 0) := (scale_sx _).trans (congrFun (sxin_eq m ρ c) _)
  have ht : scale swM (swin m ρ c) = argSW m c (ix1 0) := (scale_sw _).trans (congrFun (swin_eq m ρ c) _)
  rw [sum_around c, ← h0, ← h1, ← h2, ← h3, ← h4, ← h5, ← h6, ← add_entry m ρ c 6 (acc6 m ρ c) a b, ← hs, ← ht]
  rfl

end Ideal

end Cert.Exchange

end
-- ==== Proof.Whole.lean ====
/-
# What the reference computes

The reference's one block is its whole result: every entry is the 4096-term sum of the whole product, times the two
scales.
-/
module

public import proofs.«01_k».proof.Proof.Sums
public import proofs.«01_k».proof.Proof.Gen.ReferenceIdeal.Value
public import Idealize.ShloMosaic.Lib.Pipeline.ValueKit.Geometry
public import Idealize.ShloMosaic.Lib.Tactic

@[expose] public section

noncomputable section

namespace Cert.Whole

open Cert.ReferenceIdeal Cert.ReferenceIdeal.Gen
open Idealize.ShloMosaic Idealize.ShloMosaic.TcCoe Idealize.ShloMosaic.ValueIdx Idealize.SL.Sem

variable {F : FTy → Type} [FloatOps F]

/-- The two spellings of offset zero. -/
theorem off_zero : (![0, 0] : Fin 2 → Nat) = fun _ => 0 := funext fun a => by fin_cases a <;> rfl

/-- The one entry of a scale's array, as the body loads it. -/
theorem ld_scale (f : Vec F S1 .f32) {inb} (h) : View.ld f (Rect.unit (s := S1) ![0] ![1] inb) (Shape.Idx.first h) = f (ix1 0) :=
  congrArg f (funext fun a => by fin_cases a; rfl)

/-- What the body leaves: the payload of the whole operands and the two scales. -/
theorem out_eq (c : Dev nD) (a0 : Memref sig .tc .vmem S4096x4096 .fp8e5m2) (h0 : a0.IsWhole) (a1 : Memref sig .tc .vmem S4096x2048 .fp8e5m2) (h1 : a1.IsWhole)
    (a2 : Memref sig .tc .smem S1 .f32) (h2 : a2.IsWhole) (a3 : Memref sig .tc .smem S1 .f32) (h3 : a3.IsWhole)
    (a4 : Memref sig .tc .vmem S4096x2048 .f32) (h4 : a4.IsWhole)
    (x : Vec F S4096x4096 .fp8e5m2) (w : Vec F S4096x2048 .fp8e5m2) (sx sw : Vec F S1 .f32) :
    out0_A_4 c a0 h0 a1 h1 a2 h2 a3 h3 a4 h4 x w sx sw = k0_pay1 x w (sx (ix1 0)) (sw (ix1 0)) := by
  unfold out0_A_4
  rw [View.read_writes_eq_canon _ _ _ (cover0_A_4 c a0 h0 a1 h1 a2 h2 a3 h3 a4 h4 x w sx sw)]
  unfold kernelRun0_A
  dsimp only
  sl_unfold_words
  rw [View.canon_unit_zero off_zero]
  simp only [View.readAt_eq_ld, h0.read_unread, h1.read_unread, h2.read_unread, h3.read_unread, View.ld_unit_zero (S := S4096x4096) off_zero, View.ld_unit_zero (S := S4096x2048) off_zero]
  exact congrArg₂ (k0_pay1 x w) (ld_scale sx _) (ld_scale sw _)

variable (m : (ℓ : Loc nD τ sig) → Buf (Elt F) ℓ) (ρ : Dev nD → PrngReg)

/-- The whole block of each operand is its array. -/
theorem iblk_x (c : Dev nD) : iblk m c 0 t0_0 = m ((c : Thread nD τ).loc main_arg0) :=
  (Memref.read_access_unit_zero (Elt F) main_arg0 (funext fun a => by fin_cases a <;> decide) _ _).trans (V_main_arg0 m c)
theorem iblk_w (c : Dev nD) : iblk m c 1 t0_0 = m ((c : Thread nD τ).loc main_arg1) :=
  (Memref.read_access_unit_zero (Elt F) main_arg1 (funext fun a => by fin_cases a <;> decide) _ _).trans (V_main_arg1 m c)
theorem iblk_sx (c : Dev nD) : iblk m c 2 t0_0 = m ((c : Thread nD τ).loc main_arg2) :=
  (Memref.read_access_unit_zero (Elt F) main_arg2 (funext fun a => by fin_cases a; decide) _ _).trans (V_main_arg2 m c)
theorem iblk_sw (c : Dev nD) : iblk m c 3 t0_0 = m ((c : Thread nD τ).loc main_arg3) :=
  (Memref.read_access_unit_zero (Elt F) main_arg3 (funext fun a => by fin_cases a; decide) _ _).trans (V_main_arg3 m c)

/-- The reference's result, as a function of its operands. -/
def result (c : Dev nD) : FVec F S4096x2048 .f32 :=
  k0_pay1 (m ((c : Thread nD τ).loc main_arg0)) (m ((c : Thread nD τ).loc main_arg1))
    ((m ((c : Thread nD τ).loc main_arg2) : Vec F S1 .f32) (ix1 0)) ((m ((c : Thread nD τ).loc main_arg3) : Vec F S1 .f32) (ix1 0))

/-- The body leaves the result. -/
theorem outs_eq (c : Dev nD) : outsAt0 m c t0_0 = result m c := by
  unfold outsAt0
  rw [out_eq, iblk_x, iblk_w, iblk_sx, iblk_sw]
  rfl

/-- The one block of results is the whole array. -/
theorem whole_at : (cfg0.win 4).WholeAt t0_0 := by decide +kernel

/-- The array of results ends with what the body left. -/
theorem left_eq (c : Dev nD) : (dats m 0 c).arrAt 4 cfg0.N = outsAt0 m c t0_0 :=
  (dats m 0 c).arrAt_eq_of_after_last 4 t0_0 whole_at (outsAt0 m c t0_0) fun j => by
    rw [after0_4]; generalize outsAt0 m c t0_0 = G; rfl

/-- The array of results ends with it. -/
theorem final_eq (c : Dev nD) : (dats m 0 c).arrAt 4 cfg0.N = result m c :=
  (left_eq m c).trans (outs_eq m c)

/-- The run: the result, and the operands unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_eq m c), (h c).2⟩) (Cert.ReferenceIdeal.Value.run_blocks m ρ)

/-- Every entry of the result over the extended reals. -/
theorem result_entry (m : (ℓ : Loc nD τ sig) → Buf (Elt Ideal) ℓ) (c : Dev nD) (x : S4096x4096.Idx → EReal) (w : S4096x2048.Idx → EReal)
    (sx sw : S1.Idx → EReal) (hx : m ((c : Thread nD τ).loc main_arg0) = x) (hw : m ((c : Thread nD τ).loc main_arg1) = w)
    (hsx : m ((c : Thread nD τ).loc main_arg2) = sx) (hsw : m ((c : Thread nD τ).loc main_arg3) = sw) (a : Fin 4096) (b : Fin 2048) :
    result m c (ix2 a b) = (∑ k, x (ix2 a k) * w (ix2 k b)) * (sx (ix1 0) * sw (ix1 0)) := by
  subst hx hw hsx hsw
  exact congrArg (· * _) (Cert.Exchange.whole_entry _ _ a b)

end Cert.Whole

end
-- ==== Proof.Equation.lean ====
/-
# The kernel's results are the blocks of the reference's

Cut along the contraction, the whole product is a sum over the devices of what each device's operands give; that is
what a device's entry of the result adds up to.
-/
module

public import proofs.«01_k».proof.Proof.Result
public import proofs.«01_k».proof.Proof.Whole

@[expose] public section

noncomputable section

namespace Cert.Equation

open Idealize.ShloMosaic Idealize.ShloMosaic.TcCoe Idealize.ShloMosaic.ValueIdx Idealize.SL.Sem
open Cert.Exchange

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The reference's operands as arrays of extended reals. -/
def wholeX : Cert.ReferenceIdeal.S4096x4096.Idx → EReal := m' (((0 : Dev Cert.ReferenceIdeal.nD) : Thread Cert.ReferenceIdeal.nD Cert.ReferenceIdeal.τ).loc Cert.ReferenceIdeal.main_arg0)
/-- The reference's `w`. -/
def wholeW : Cert.ReferenceIdeal.S4096x2048.Idx → EReal := m' (((0 : Dev Cert.ReferenceIdeal.nD) : Thread Cert.ReferenceIdeal.nD Cert.ReferenceIdeal.τ).loc Cert.ReferenceIdeal.main_arg1)
/-- The two scales. -/
def wholeSX : Cert.ReferenceIdeal.S1.Idx → EReal := m' (((0 : Dev Cert.ReferenceIdeal.nD) : Thread Cert.ReferenceIdeal.nD Cert.ReferenceIdeal.τ).loc Cert.ReferenceIdeal.main_arg2)
def wholeSW : Cert.ReferenceIdeal.S1.Idx → EReal := m' (((0 : Dev Cert.ReferenceIdeal.nD) : Thread Cert.ReferenceIdeal.nD Cert.ReferenceIdeal.τ).loc Cert.ReferenceIdeal.main_arg3)

/-- Block `c` of an array cut along its columns: entry `(a, k)` is entry `(a, 512 c + k)`. -/
theorem cols_entry (c : Fin 8) (X : (⟨2, ![4096, 4096]⟩ : Shape).Idx → EReal) (hd) (a : Fin 4096) (k : Fin 512) :
    Layout.block ⟨2, ![4096, 512]⟩ ⟨2, ![4096, 4096]⟩ 1 8 c X hd (ix2 a k) = X (ix2 a (at8 c k)) :=
  congrArg X (funext fun i => Fin.ext (by
    have h := Layout.idx_cols_val hd c (ix2 a k)
    fin_cases i
    · exact h.1
    · exact h.2.trans (congrArg (· + k.val) (Nat.mul_comm c.val 512))))

/-- Block `c` of an array cut along its rows: entry `(k, b)` is entry `(512 c + k, b)`. -/
theorem rows_entry (c : Fin 8) (W : (⟨2, ![4096, 2048]⟩ : Shape).Idx → EReal) (hd) (k : Fin 512) (b : Fin 2048) :
    Layout.block ⟨2, ![512, 2048]⟩ ⟨2, ![4096, 2048]⟩ 0 8 c W hd (ix2 k b) = W (ix2 (at8 c k) b) :=
  congrArg W (funext fun i => Fin.ext (by
    have h := Layout.idx_rows_val hd c (ix2 k b)
    fin_cases i
    · exact h.1.trans (congrArg (· + k.val) (Nat.mul_comm c.val 512))
    · exact h.2))

/-- Entry by entry: the devices' products add up to the whole product's entry. -/
theorem parts_sum
    (hx : ∀ (c : Dev Cert.KernelIdeal.nD) (a : Fin 4096) (k : Fin 512), argX m c (ix2 a k) = wholeX m' (ix2 a (at8 c k)))
    (hw : ∀ (c : Dev Cert.KernelIdeal.nD) (k : Fin 512) (b : Fin 2048), argW m c (ix2 k b) = wholeW m' (ix2 (at8 c k) b))
    (c : Dev Cert.KernelIdeal.nD) (a : Fin 512) (b : Fin 2048) :
    ∑ o, part m c o a b = ∑ k : Fin 4096, wholeX m' (ix2 (at8 c a) k) * wholeW m' (ix2 k b) := by
  rw [sum_blocks]
  refine Finset.sum_congr rfl fun o _ => ?_
  unfold part
  exact Finset.sum_congr rfl fun k _ => by rw [hx, hw]

/-- A device's result, entry by entry, is the reference's in the device's rows. -/
theorem outAt_rows
    (hx : ∀ (c : Dev Cert.KernelIdeal.nD) (a : Fin 4096) (k : Fin 512), argX m c (ix2 a k) = wholeX m' (ix2 a (at8 c k)))
    (hw : ∀ (c : Dev Cert.KernelIdeal.nD) (k : Fin 512) (b : Fin 2048), argW m c (ix2 k b) = wholeW m' (ix2 (at8 c k) b))
    (hsx : ∀ c : Dev Cert.KernelIdeal.nD, argSX m c = wholeSX m') (hsw : ∀ c : Dev Cert.KernelIdeal.nD, argSW m c = wholeSW m')
    (c : Dev Cert.KernelIdeal.nD) (a : Fin 512) (b : Fin 2048) :
    outAt m ρ c (ix2 a b) = Cert.Whole.result m' 0 (ix2 (at8 c a) b) := by
  rw [outAt_entry, parts_sum m m' hx hw, hsx, hsw]
  exact (Cert.Whole.result_entry m' 0 (wholeX m') (wholeW m') (wholeSX m') (wholeSW m') rfl rfl rfl rfl _ _).symm

/-- A device's result is its block of rows of the reference's. -/
theorem outAt_block
    (hx : ∀ (c : Dev Cert.KernelIdeal.nD) (a : Fin 4096) (k : Fin 512), argX m c (ix2 a k) = wholeX m' (ix2 a (at8 c k)))
    (hw : ∀ (c : Dev Cert.KernelIdeal.nD) (k : Fin 512) (b : Fin 2048), argW m c (ix2 k b) = wholeW m' (ix2 (at8 c k) b))
    (hsx : ∀ c : Dev Cert.KernelIdeal.nD, argSX m c = wholeSX m') (hsw : ∀ c : Dev Cert.KernelIdeal.nD, argSW m c = wholeSW m')
    (c : Dev Cert.KernelIdeal.nD) (hd) :
    outAt m ρ c = Layout.block ⟨2, ![512, 2048]⟩ ⟨2, ![4096, 2048]⟩ 0 8 c (Cert.Whole.result m' 0) hd := by
  funext j
  rw [eq_ix2 j]
  exact (outAt_rows m ρ m' hx hw hsx hsw c _ _).trans (rows_entry c (Cert.Whole.result m' 0) hd _ _).symm

end Cert.Equation

end
-- ==== Proof.lean ====
/-
# The claims

The kernel and its idealized text are one program at two kinds of float value, and its run is proved at any. So the
two frames are that run at the two kinds, and the equation is the run at the extended reals, with the contents it ends
at compared with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

section Run
open Cert.KernelIdeal Cert.Exchange
variable {F : FTy → Type} [FloatOps F]

/-- The kernel's run, by the names of its arrays: what the result holds, the operands unchanged, every counter at zero. -/
theorem kernel_run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v1) = outAt m ρ c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun _ h => ⟨fun c => ⟨(h.1 c 4).trans (finalA_out m ρ c), (h.1 c 0).trans (finalA_in m ρ c 0 rfl),
    (h.1 c 1).trans (finalA_in m ρ c 1 rfl), (h.1 c 2).trans (finalA_in m ρ c 2 rfl), (h.1 c 3).trans (finalA_in m ρ c 3 rfl)⟩, h.2⟩)
    (run_main m ρ)

end Run

section Same
variable {F : FTy → Type} [FloatOps F]

/-- The two texts' kernel bodies are one. -/
theorem body_same : Cert.Kernel.cc0_body (F := F) = Cert.KernelIdeal.cc0_body (F := F) := rfl

/-- So are their tables of bodies, at the one label there is. -/
theorem table_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

theorem defs_same : Cert.Kernel.defs (F := F) = Cert.KernelIdeal.defs (F := F) :=
  congrArg (Pipeline.defs Cert.KernelIdeal.pcfgs) table_same

end Same

theorem frame_kernel : Cert.quiescent_Kernel := fun m ρ _ => by
  rw [defs_same]
  exact (θ_run Cert.KernelIdeal.defs _ _).mono (fun _ h => ⟨fun c => (h.1 c).2, h.2⟩) (kernel_run (F := Bits) m ρ)

theorem frame_ideal : Cert.quiescent_KernelIdeal := fun m ρ _ =>
  (θ_run Cert.KernelIdeal.defs _ _).mono (fun _ h => ⟨fun c => (h.1 c).2, h.2⟩) (kernel_run (F := Ideal) m ρ)

theorem frame_reference : Cert.quiescent_ReferenceIdeal := fun m ρ _ => Cert.ReferenceIdeal.Gen.frame m ρ

/-- Each device's result is its block of rows of the reference's. -/
theorem equation : Cert.algebraic_KernelIdeal_ReferenceIdeal := fun m ρ m' ρ' _ hin =>
  ⟨Cert.Whole.result m' 0,
    (θ_run Cert.KernelIdeal.defs _ _).mono (fun _ h c => ⟨(h.1 c).1.trans (Cert.Equation.outAt_block m ρ m'
        (fun c a k => (congrFun (hin c).1 _).trans (Cert.Equation.cols_entry c (Cert.Equation.wholeX m') _ a k))
        (fun c k b => (congrFun (hin c).2.1 _).trans (Cert.Equation.rows_entry c (Cert.Equation.wholeW m') _ k b))
        (fun c => (hin c).2.2.1) (fun c => (hin c).2.2.2) c _), (h.1 c).2⟩)
      (kernel_run (F := Ideal) m ρ),
    (θ_run Cert.ReferenceIdeal.defs _ _).mono (fun _ h => h 0) (Cert.Whole.run m' ρ')⟩

theorem claim : Cert.Claim := ⟨Cert.Kernel.Gen.facts, Cert.KernelIdeal.Gen.facts, Cert.ReferenceIdeal.Gen.facts,
  frame_kernel, frame_ideal, frame_reference, trivial, equation⟩

end Cert.Proof

end
